-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_classes_in_table_merge_finite [hPre_classes_in_table_merge_finite : Cert.Pre_classes_in_table_merge_finite.Facts] (m : (ℓ : Loc Cert.KernelIdeal.nD Cert.KernelIdeal.τ Cert.KernelIdeal.sig) → Buf (Elt Ideal) ℓ) : Prop :=
  ∀ c : Dev Cert.KernelIdeal.nD,
    (Cert.Pre_classes_in_table_merge_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_classes_in_table_merge_finite [hPre_classes_in_table_merge_finite : Cert.Pre_classes_in_table_merge_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_classes_in_table_merge_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_classes_in_table_merge_finite [hKernelIdeal : Cert.KernelIdeal.Facts] [hPre_classes_in_table_merge_finite : Cert.Pre_classes_in_table_merge_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_classes_in_table_merge_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_classes_in_table_merge_finite [hReferenceIdeal : Cert.ReferenceIdeal.Facts] [hPre_classes_in_table_merge_finite : Cert.Pre_classes_in_table_merge_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_classes_in_table_merge_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  IdealRules.named_const.Statement Cert.KernelIdeal.κ "big" .f32 0x7F61B1E6#32 ⊤

def algebraic_KernelIdeal_ReferenceIdeal_pre_classes_in_table_merge_finite [hKernelIdeal : Cert.KernelIdeal.Facts] [hReferenceIdeal : Cert.ReferenceIdeal.Facts] [hPre_classes_in_table_merge_finite : Cert.Pre_classes_in_table_merge_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_classes_in_table_merge_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_classes_in_table_merge_finite : Cert.Pre_classes_in_table_merge_finite.Facts),
    quiescent_Kernel (hKernel := hKernel)
    ∧ quiescent_KernelIdeal (hKernelIdeal := hKernelIdeal)
    ∧ quiescent_KernelIdeal_pre_classes_in_table_merge_finite (hKernelIdeal := hKernelIdeal) (hPre_classes_in_table_merge_finite := hPre_classes_in_table_merge_finite)
    ∧ quiescent_ReferenceIdeal (hReferenceIdeal := hReferenceIdeal)
    ∧ quiescent_ReferenceIdeal_pre_classes_in_table_merge_finite (hReferenceIdeal := hReferenceIdeal) (hPre_classes_in_table_merge_finite := hPre_classes_in_table_merge_finite)
    ∧ preserves_Kernel_KernelIdeal
    ∧ algebraic_KernelIdeal_ReferenceIdeal_pre_classes_in_table_merge_finite (hKernelIdeal := hKernelIdeal) (hReferenceIdeal := hReferenceIdeal) (hPre_classes_in_table_merge_finite := hPre_classes_in_table_merge_finite)
-- ==== Pre_classes_in_table_merge_finite.lean ====
abbrev S16384 : Shape := ⟨1, ![16384]⟩
abbrev S16384x3 : Shape := ⟨2, ![16384, 3]⟩
abbrev S33x128 : Shape := ⟨2, ![33, 128]⟩
abbrev S3x64 : Shape := ⟨2, ![3, 64]⟩
abbrev S64 : Shape := ⟨1, ![64]⟩
abbrev S64x128 : Shape := ⟨2, ![64, 128]⟩
abbrev S128 : Shape := ⟨1, ![128]⟩
abbrev S384x128 : Shape := ⟨2, ![384, 128]⟩
abbrev S256x128 : Shape := ⟨2, ![256, 128]⟩
abbrev S128x128 : Shape := ⟨2, ![128, 128]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : IVec S16384 32) (main_arg1 : FVec F S16384x3 .f32) (main_arg2 : FVec F S16384x3 .f32) (main_arg3 : IVec S16384 32) (main_arg4 : FVec F S33x128 .f32) (main_arg5 : FVec F S3x64 .f32) (main_arg6 : FVec F S64 .f32) (main_arg7 : FVec F S64x128 .f32) (main_arg8 : FVec F S128 .f32) (main_arg9 : FVec F S3x64 .f32) (main_arg10 : FVec F S64 .f32) (main_arg11 : FVec F S64x128 .f32) (main_arg12 : FVec F S128 .f32) (main_arg13 : FVec F S384x128 .f32) (main_arg14 : FVec F S128 .f32) (main_arg15 : FVec F S256x128 .f32) (main_arg16 : FVec F S128 .f32) (main_arg17 : FVec F S128 .f32) (main_arg18 : FVec F S128 .f32) (main_arg19 : FVec F S128x128 .f32) (main_arg20 : FVec F S128 .f32) (main_arg21 : FVec F S128x128 .f32) (main_arg22 : FVec F S128 .f32) (main_arg23 : FVec F S128x128 .f32) (main_arg24 : FVec F S128 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 33#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_v6 : FVec F S384x128 .f32 := Host.absf main_arg13
  let main_cst : FVec F S_ .f32 := constant S_ .f32 0x7F800000#32
  let main_v7 : FVec F S384x128 .f32 := broadcastInDim S384x128 ![] bcast_S_S384x128 main_cst
  let main_v8 : IVec S384x128 1 := cmpf .olt main_v6 main_v7
  let main_c_2 : IVec S_ 1 := constantI S_ 1 1#1
  let main_v9 : IVec S_ 1 := (fun x v => Host.reduce IntOp.andi x v reducesTo_S384x128_S_d0_1 h_S_) main_v8 main_c_2
  let main_v10 : IVec S_ 1 := andi main_v5 main_v9
  let main_v11 : FVec F S128 .f32 := Host.absf main_arg14
  let main_cst_3 : FVec F S_ .f32 := constant S_ .f32 0x7F800000#32
  let main_v12 : FVec F S128 .f32 := broadcastInDim S128 ![] bcast_S_S128 main_cst_3
  let main_v13 : IVec S128 1 := cmpf .olt main_v11 main_v12
  let main_c_4 : IVec S_ 1 := constantI S_ 1 1#1
  let main_v14 : IVec S_ 1 := (fun x v => Host.reduce IntOp.andi x v reducesTo_S128_S_d0 h_S_) main_v13 main_c_4
  let main_v15 : IVec S_ 1 := andi main_v10 main_v14
  main_v15
-- ==== Kernel.lean ====
abbrev S16384 : Shape := ⟨1, ![16384]⟩
abbrev S16384x3 : Shape := ⟨2, ![16384, 3]⟩
abbrev S33x128 : Shape := ⟨2, ![33, 128]⟩
abbrev S3x64 : Shape := ⟨2, ![3, 64]⟩
abbrev S64 : Shape := ⟨1, ![64]⟩
abbrev S64x128 : Shape := ⟨2, ![64, 128]⟩
abbrev S128 : Shape := ⟨1, ![128]⟩
abbrev S384x128 : Shape := ⟨2, ![384, 128]⟩
abbrev S256x128 : Shape := ⟨2, ![256, 128]⟩
abbrev S128x128 : Shape := ⟨2, ![128, 128]⟩
abbrev S_ : Shape := ⟨0, ![]⟩
abbrev S16384x8 : Shape := ⟨2, ![16384, 8]⟩
abbrev S16x1x1024 : Shape := ⟨3, ![16, 1, 1024]⟩
abbrev S8x64 : Shape := ⟨2, ![8, 64]⟩
abbrev S1x64 : Shape := ⟨2, ![1, 64]⟩
abbrev S1x128 : Shape := ⟨2, ![1, 128]⟩
abbrev S1024x8 : Shape := ⟨2, ![1024, 8]⟩
abbrev S1x1x1024 : Shape := ⟨3, ![1, 1, 1024]⟩
abbrev S16x128 : Shape := ⟨2, ![16, 128]⟩
abbrev S64x1 : Shape := ⟨2, ![64, 1]⟩
abbrev S1x1024 : Shape := ⟨2, ![1, 1024]⟩
abbrev S64x1024 : Shape := ⟨2, ![64, 1024]⟩
abbrev S1024x128 : Shape := ⟨2, ![1024, 128]⟩
abbrev S1024x64 : Shape := ⟨2, ![1024, 64]⟩
abbrev S1024 : Shape := ⟨1, ![1024]⟩
abbrev S1024x1 : Shape := ⟨2, ![1024, 1]⟩
abbrev S1024x384 : Shape := ⟨2, ![1024, 384]⟩
abbrev S64x64 : Shape := ⟨2, ![64, 64]⟩
abbrev S64x512 : Shape := ⟨2, ![64, 512]⟩
abbrev S512x128 : Shape := ⟨2, ![512, 128]⟩
abbrev S8192x128 : Shape := ⟨2, ![8192, 128]⟩
abbrev S16 : Shape := ⟨1, ![16]⟩
abbrev S16x1 : Shape := ⟨2, ![16, 1]⟩

abbrev nBuf : Space → Nat
  | .hbm => 63
  | .vmem => 30
  | .smem => 0
  | _ => 0

abbrev bufTy : (tb : Table) → Fin (tcTables nBuf tb) → BufTy
  | .hbm, ⟨0, _⟩ => ⟨S16384, .i32⟩
  | .hbm, ⟨1, _⟩ => ⟨S16384x3, .f32⟩
  | .hbm, ⟨2, _⟩ => ⟨S16384x3, .f32⟩
  | .hbm, ⟨3, _⟩ => ⟨S16384, .i32⟩
  | .hbm, ⟨4, _⟩ => ⟨S33x128, .f32⟩
  | .hbm, ⟨5, _⟩ => ⟨S3x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S3x64, .f32⟩
  | .hbm, ⟨10, _⟩ => ⟨S64, .f32⟩
  | .hbm, ⟨11, _⟩ => ⟨S64x128, .f32⟩
  | .hbm, ⟨12, _⟩ => ⟨S128, .f32⟩
  | .hbm, ⟨13, _⟩ => ⟨S384x128, .f32⟩
  | .hbm, ⟨14, _⟩ => ⟨S128, .f32⟩
  | .hbm, ⟨15, _⟩ => ⟨S256x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S128x128, .f32⟩
  | .hbm, ⟨22, _⟩ => ⟨S128, .f32⟩
  | .hbm, ⟨23, _⟩ => ⟨S128x128, .f32⟩
  | .hbm, ⟨24, _⟩ => ⟨S128, .f32⟩
  | .hbm, ⟨25, _⟩ => ⟨S_, .i32⟩
  | .hbm, ⟨26, _⟩ => ⟨S_, .f32⟩
  | .hbm, ⟨27, _⟩ => ⟨S16384x8, .f32⟩
  | .hbm, ⟨28, _⟩ => ⟨S_, .i32⟩
  | .hbm, ⟨29, _⟩ => ⟨S_, .f32⟩
  | .hbm, ⟨30, _⟩ => ⟨S16384x8, .f32⟩
  | .hbm, ⟨31, _⟩ => ⟨S16x1x1024, .i32⟩
  | .hbm, ⟨32, _⟩ => ⟨S_, .i32⟩
  | .hbm, ⟨33, _⟩ => ⟨S_, .f32⟩
  | .hbm, ⟨34, _⟩ => ⟨S64x128, .f32⟩
  | .hbm, ⟨35, _⟩ => ⟨S_, .i32⟩
  | .hbm, ⟨36, _⟩ => ⟨S_, .f32⟩
  | .hbm, ⟨37, _⟩ => ⟨S8x64, .f32⟩
  | .hbm, ⟨38, _⟩ => ⟨S_, .i32⟩
  | .hbm, ⟨39, _⟩ => ⟨S_, .f32⟩
  | .hbm, ⟨40, _⟩ => ⟨S8x64, .f32⟩
  | .hbm, ⟨41, _⟩ => ⟨S_, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S1x64, .f32⟩
  | .hbm, ⟨46, _⟩ => ⟨S1x128, .f32⟩
  | .hbm, ⟨47, _⟩ => ⟨S1x64, .f32⟩
  | .hbm, ⟨48, _⟩ => ⟨S1x128, .f32⟩
  | .hbm, ⟨49, _⟩ => ⟨S384x128, .bf16⟩
  | .hbm, ⟨50, _⟩ => ⟨S1x128, .f32⟩
  | .hbm, ⟨51, _⟩ => ⟨S128x128, .f32⟩
  | .hbm, ⟨52, _⟩ => ⟨S128x128, .bf16⟩
  | .hbm, ⟨53, _⟩ => ⟨S128x128, .f32⟩
  | .hbm, ⟨54, _⟩ => ⟨S128x128, .bf16⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S128x128, .bf16⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S256x128, .f32⟩
  | .local _ .vmem, ⟨0, _⟩ => ⟨S1024x8, .f32⟩
  | .local _ .vmem, ⟨1, _⟩ => ⟨S1024x8, .f32⟩
  | .local _ .vmem, ⟨2, _⟩ => ⟨S1024x8, .f32⟩
  | .local _ .vmem, ⟨3, _⟩ => ⟨S1024x8, .f32⟩
  | .local _ .vmem, ⟨4, _⟩ => ⟨S1x1x1024, .i32⟩
  | .local _ .vmem, ⟨5, _⟩ => ⟨S1x1x1024, .i32⟩
  | .local _ .vmem, ⟨6, _⟩ => ⟨S64x128, .f32⟩
  | .local _ .vmem, ⟨7, _⟩ => ⟨S8x64, .f32⟩
  | .local _ .vmem, ⟨8, _⟩ => ⟨S1x64, .f32⟩
  | .local _ .vmem, ⟨9, _⟩ => ⟨S64x128, .f32⟩
  | .local _ .vmem, ⟨10, _⟩ => ⟨S1x128, .f32⟩
  | .local _ .vmem, ⟨11, _⟩ => ⟨S8x64, .f32⟩
  | .local _ .vmem, ⟨12, _⟩ => ⟨S1x64, .f32⟩
  | .local _ .vmem, ⟨13, _⟩ => ⟨S64x128, .f32⟩
  | .local _ .vmem, ⟨14, _⟩ => ⟨S1x128, .f32⟩
  | .local _ .vmem, ⟨15, _⟩ => ⟨S384x128, .bf16⟩
  | .local _ .vmem, ⟨16, _⟩ => ⟨S1x128, .f32⟩
  | .local _ .vmem, ⟨17, _⟩ => ⟨S128x128, .bf16⟩
  | .local _ .vmem, ⟨18, _⟩ => ⟨S128x128, .bf16⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S128x128, .bf16⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S16x128, .f32⟩
  | .local _ .vmem, ⟨29, _⟩ => ⟨S16x128, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_call0_v0 : Ref sig .tc := ⟨.hbm, 26, rfl⟩
abbrev main_v0 : Ref sig .tc := ⟨.hbm, 27, rfl⟩
abbrev main_c_0 : Ref sig .tc := ⟨.hbm, 28, rfl⟩
abbrev main_call1_v0 : Ref sig .tc := ⟨.hbm, 29, rfl⟩
abbrev main_v1 : Ref sig .tc := ⟨.hbm, 30, rfl⟩
abbrev main_v2 : Ref sig .tc := ⟨.hbm, 31, rfl⟩
abbrev main_c_1 : Ref sig .tc := ⟨.hbm, 32, rfl⟩
abbrev main_call2_v0 : Ref sig .tc := ⟨.hbm, 33, rfl⟩
abbrev main_v3 : Ref sig .tc := ⟨.hbm, 34, rfl⟩
abbrev main_c_2 : Ref sig .tc := ⟨.hbm, 35, rfl⟩
abbrev main_call3_v0 : Ref sig .tc := ⟨.hbm, 36, rfl⟩
abbrev main_v4 : Ref sig .tc := ⟨.hbm, 37, rfl⟩
abbrev main_c_3 : Ref sig .tc := ⟨.hbm, 38, rfl⟩
abbrev main_call4_v0 : Ref sig .tc := ⟨.hbm, 39, rfl⟩
abbrev main_v5 : Ref sig .tc := ⟨.hbm, 40, rfl⟩
abbrev main_cst : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg24_0 : Ref sig .tc := ⟨.vmem, 27, rfl⟩
abbrev cc0_stg25_0 : Ref sig .tc := ⟨.vmem, 28, rfl⟩
abbrev cc0_stg25_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem24_0 : DmaSem sig := 27
abbrev cc0_sem25_0 : DmaSem sig := 28
abbrev cc0_sem25_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S384x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S16x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== KernelIdeal.lean ====
variable {F : FTy → Type} [FloatOps F] [Named F]
def κ : String → Option EReal := fun
  | "big" => some ⊤
  | _ => none
-- ==== ReferenceIdeal.lean ====
abbrev S16384 : Shape := ⟨1, ![16384]⟩
abbrev S16384x3 : Shape := ⟨2, ![16384, 3]⟩
abbrev S33x128 : Shape := ⟨2, ![33, 128]⟩
abbrev S3x64 : Shape := ⟨2, ![3, 64]⟩
abbrev S64 : Shape := ⟨1, ![64]⟩
abbrev S64x128 : Shape := ⟨2, ![64, 128]⟩
abbrev S128 : Shape := ⟨1, ![128]⟩
abbrev S384x128 : Shape := ⟨2, ![384, 128]⟩
abbrev S256x128 : Shape := ⟨2, ![256, 128]⟩
abbrev S128x128 : Shape := ⟨2, ![128, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S16384x64 : Shape := ⟨2, ![16384, 64]⟩
abbrev S1x64 : Shape := ⟨2, ![1, 64]⟩
abbrev S1x128 : Shape := ⟨2, ![1, 128]⟩
abbrev S16384x384 : Shape := ⟨2, ![16384, 384]⟩
abbrev S256x64x128 : Shape := ⟨3, ![256, 64, 128]⟩
abbrev S256x64 : Shape := ⟨2, ![256, 64]⟩
abbrev S256x64x1 : Shape := ⟨3, ![256, 64, 1]⟩
abbrev S256x1x64 : Shape := ⟨3, ![256, 1, 64]⟩
abbrev S256x64x64 : Shape := ⟨3, ![256, 64, 64]⟩
abbrev S256x64x8 : Shape := ⟨3, ![256, 64, 8]⟩
abbrev S256x64x8x1 : Shape := ⟨4, ![256, 64, 8, 1]⟩
abbrev S256x64x8x128 : Shape := ⟨4, ![256, 64, 8, 128]⟩
abbrev S256x64x1x128 : Shape := ⟨4, ![256, 64, 1, 128]⟩
abbrev S256x64x8x256 : Shape := ⟨4, ![256, 64, 8, 256]⟩
abbrev S1x1x1x128 : Shape := ⟨4, ![1, 1, 1, 128]⟩
abbrev S256 : Shape := ⟨1, ![256]⟩
abbrev S256x1 : Shape := ⟨2, ![256, 1]⟩

abbrev nBuf : Space → Nat
  | .hbm => 183
  | .vmem => 0
  | .smem => 0
  | _ => 0

abbrev hbmTy0_0 (i : Nat) : BufTy := match i % 128 with
  | 0 => ⟨S16384, .i32⟩
  | 1 => ⟨S16384x3, .f32⟩
  | 2 => ⟨S16384x3, .f32⟩
  | 3 => ⟨S16384, .i32⟩
  | 4 => ⟨S33x128, .f32⟩
  | 5 => ⟨S3x64, .f32⟩
  | 6 => ⟨S64, .f32⟩
  | 7 => ⟨S64x128, .f32⟩
  | 8 => ⟨S128, .f32⟩
  | 9 => ⟨S3x64, .f32⟩
  | 10 => ⟨S64, .f32⟩
  | 11 => ⟨S64x128, .f32⟩
  | 12 => ⟨S128, .f32⟩
  | 13 => ⟨S384x128, .f32⟩
  | 14 => ⟨S128, .f32⟩
  | 15 => ⟨S256x128, .f32⟩
  | 16 => ⟨S128, .f32⟩
  | 17 => ⟨S128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x128, .f32⟩
  | 24 => ⟨S128, .f32⟩
  | 25 => ⟨S_, .i32⟩
  | 26 => ⟨S16384, .i32⟩
  | 27 => ⟨S16384, .i1⟩
  | 28 => ⟨S_, .i32⟩
  | 29 => ⟨S16384, .i32⟩
  | 30 => ⟨S16384, .i32⟩
  | 31 => ⟨S16384, .i32⟩
  | 32 => ⟨S16384x1, .i32⟩
  | 33 => ⟨S1, .i32⟩
  | 34 => ⟨S_, .i32⟩
  | 35 => ⟨S16384x1, .i32⟩
  | 36 => ⟨S16384x1, .i1⟩
  | 37 => ⟨S1x1, .i32⟩
  | 38 => ⟨S16384x1, .i32⟩
  | 39 => ⟨S16384x1, .i1⟩
  | 40 => ⟨S16384x1, .i1⟩
  | 41 => ⟨S_, .i1⟩
  | 42 => ⟨S16384, .i1⟩
  | 43 => ⟨S16384x128, .f32⟩
  | 44 => ⟨S16384x128, .i1⟩
  | 45 => ⟨S_, .f32⟩
  | 46 => ⟨S16384x128, .f32⟩
  | 47 => ⟨S16384x128, .f32⟩
  | 48 => ⟨S16384x128, .f32⟩
  | 49 => ⟨S_, .f32⟩
  | 50 => ⟨S16384, .f32⟩
  | 51 => ⟨S16384x1, .f32⟩
  | 52 => ⟨S16384x1, .f32⟩
  | 53 => ⟨S_, .f32⟩
  | 54 => ⟨S16384x1, .f32⟩
  | 55 => ⟨S16384x1, .f32⟩
  | 56 => ⟨S16384x128, .f32⟩
  | 57 => ⟨S16384x128, .f32⟩
  | 58 => ⟨S16384x64, .f32⟩
  | 59 => ⟨S1x64, .f32⟩
  | 60 => ⟨S16384x64, .f32⟩
  | 61 => ⟨S16384x64, .f32⟩
  | 62 => ⟨S_, .f32⟩
  | 63 => ⟨S16384x64, .f32⟩
  | 64 => ⟨S16384x64, .f32⟩
  | 65 => ⟨S16384x128, .f32⟩
  | 66 => ⟨S1x128, .f32⟩
  | 67 => ⟨S16384x128, .f32⟩
  | 68 => ⟨S16384x128, .f32⟩
  | 69 => ⟨S16384x128, .f32⟩
  | 70 => ⟨S_, .f32⟩
  | 71 => ⟨S16384, .f32⟩
  | 72 => ⟨S16384x1, .f32⟩
  | 73 => ⟨S16384x1, .f32⟩
  | 74 => ⟨S_, .f32⟩
  | 75 => ⟨S16384x1, .f32⟩
  | 76 => ⟨S16384x1, .f32⟩
  | 77 => ⟨S16384x128, .f32⟩
  | 78 => ⟨S16384x128, .f32⟩
  | 79 => ⟨S16384x64, .f32⟩
  | 80 => ⟨S1x64, .f32⟩
  | 81 => ⟨S16384x64, .f32⟩
  | 82 => ⟨S16384x64, .f32⟩
  | 83 => ⟨S_, .f32⟩
  | 84 => ⟨S16384x64, .f32⟩
  | 85 => ⟨S16384x64, .f32⟩
  | 86 => ⟨S16384x128, .f32⟩
  | 87 => ⟨S1x128, .f32⟩
  | 88 => ⟨S16384x128, .f32⟩
  | 89 => ⟨S16384x128, .f32⟩
  | 90 => ⟨S16384x128, .f32⟩
  | 91 => ⟨S_, .f32⟩
  | 92 => ⟨S16384, .f32⟩
  | 93 => ⟨S16384x1, .f32⟩
  | 94 => ⟨S16384x1, .f32⟩
  | 95 => ⟨S_, .f32⟩
  | 96 => ⟨S16384x1, .f32⟩
  | 97 => ⟨S16384x1, .f32⟩
  | 98 => ⟨S16384x128, .f32⟩
  | 99 => ⟨S16384x128, .f32⟩
  | 100 => ⟨S16384x384, .f32⟩
  | 101 => ⟨S16384x128, .f32⟩
  | 102 => ⟨S1x128, .f32⟩
  | 103 => ⟨S16384x128, .f32⟩
  | 104 => ⟨S16384x128, .f32⟩
  | 105 => ⟨S256x64x128, .f32⟩
  | 106 => ⟨S256x64x128, .f32⟩
  | 107 => ⟨S_, .f32⟩
  | 108 => ⟨S256x64, .f32⟩
  | 109 => ⟨S256x64x1, .f32⟩
  | 110 => ⟨S256x1x64, .f32⟩
  | 111 => ⟨S256x64x64, .f32⟩
  | 112 => ⟨S256x64x64, .f32⟩
  | 113 => ⟨S256x64x64, .f32⟩
  | 114 => ⟨S256x64x64, .f32⟩
  | 115 => ⟨S_, .f32⟩
  | 116 => ⟨S256x64x64, .f32⟩
  | 117 => ⟨S256x64x64, .f32⟩
  | 118 => ⟨S256x64x64, .f32⟩
  | 119 => ⟨S256x64x64, .f32⟩
  | 120 => ⟨S256x64x8, .f32⟩
  | 121 => ⟨S256x64x8, .i32⟩
  | 122 => ⟨S_, .i32⟩
  | 123 => ⟨S256x64x8, .i32⟩
  | 124 => ⟨S256x64x8, .i1⟩
  | 125 => ⟨S_, .i32⟩
  | 126 => ⟨S256x64x8, .i32⟩
  | 127 => ⟨S256x64x8, .i32⟩
  | _ => ⟨S16384, .i32⟩

abbrev hbmTy0_1 (i : Nat) : BufTy := match i % 128 with
  | 0 => ⟨S256x64x8, .i32⟩
  | 1 => ⟨S256x64x8x1, .i32⟩
  | 2 => ⟨S256x64x8x128, .f32⟩
  | 3 => ⟨S256x64x1x128, .f32⟩
  | 4 => ⟨S256x64x8x128, .f32⟩
  | 5 => ⟨S256x64x8x128, .f32⟩
  | 6 => ⟨S256x64x8x128, .f32⟩
  | 7 => ⟨S256x64x8x256, .f32⟩
  | 8 => ⟨S256x64x8x128, .f32⟩
  | 9 => ⟨S1x1x1x128, .f32⟩
  | 10 => ⟨S256x64x8x128, .f32⟩
  | 11 => ⟨S256x64x8x128, .f32⟩
  | 12 => ⟨S_, .f32⟩
  | 13 => ⟨S_, .f32⟩
  | 14 => ⟨S_, .f32⟩
  | 15 => ⟨S256x64x8x128, .f32⟩
  | 16 => ⟨S256x64x8x128, .f32⟩
  | 17 => ⟨S1x1x1x128, .f32⟩
  | 18 => ⟨S256x64x8x128, .f32⟩
  | 19 => ⟨S256x64x8x128, .f32⟩
  | 20 => ⟨S1x1x1x128, .f32⟩
  | 21 => ⟨S256x64x8x128, .f32⟩
  | 22 => ⟨S256x64x8x128, .f32⟩
  | 23 => ⟨S_, .f32⟩
  | 24 => ⟨S256x64x8x128, .f32⟩
  | 25 => ⟨S256x64x8x128, .f32⟩
  | 26 => ⟨S256x64x8x128, .f32⟩
  | 27 => ⟨S1x1x1x128, .f32⟩
  | 28 => ⟨S256x64x8x128, .f32⟩
  | 29 => ⟨S256x64x8x128, .f32⟩
  | 30 => ⟨S_, .f32⟩
  | 31 => ⟨S256x64x128, .f32⟩
  | 32 => ⟨S_, .f32⟩
  | 33 => ⟨S256x128, .f32⟩
  | 34 => ⟨S256x128, .f32⟩
  | 35 => ⟨S1x128, .f32⟩
  | 36 => ⟨S256x128, .f32⟩
  | 37 => ⟨S256x128, .f32⟩
  | 38 => ⟨S_, .f32⟩
  | 39 => ⟨S256x128, .f32⟩
  | 40 => ⟨S256x128, .f32⟩
  | 41 => ⟨S256x128, .f32⟩
  | 42 => ⟨S1x128, .f32⟩
  | 43 => ⟨S256x128, .f32⟩
  | 44 => ⟨S256x128, .f32⟩
  | 45 => ⟨S256x128, .f32⟩
  | 46 => ⟨S_, .f32⟩
  | 47 => ⟨S256, .f32⟩
  | 48 => ⟨S256x1, .f32⟩
  | 49 => ⟨S256x1, .f32⟩
  | 50 => ⟨S_, .f32⟩
  | 51 => ⟨S256x1, .f32⟩
  | 52 => ⟨S256x1, .f32⟩
  | 53 => ⟨S256x128, .f32⟩
  | 54 => ⟨S256x128, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v0 : Ref sig .tc := ⟨.hbm, 47, rfl⟩
abbrev main_call1_v0 : Ref sig .tc := ⟨.hbm, 48, rfl⟩
abbrev main_call1_cst : Ref sig .tc := ⟨.hbm, 49, rfl⟩
abbrev main_call1_v1 : Ref sig .tc := ⟨.hbm, 50, rfl⟩
abbrev main_call1_v2 : Ref sig .tc := ⟨.hbm, 51, rfl⟩
abbrev main_v1 : Ref sig .tc := ⟨.hbm, 52, rfl⟩
abbrev main_cst : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_cst_0 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_call2_v0 : Ref sig .tc := ⟨.hbm, 69, rfl⟩
abbrev main_call2_cst : Ref sig .tc := ⟨.hbm, 70, rfl⟩
abbrev main_call2_v1 : Ref sig .tc := ⟨.hbm, 71, rfl⟩
abbrev main_call2_v2 : Ref sig .tc := ⟨.hbm, 72, rfl⟩
abbrev main_v16 : Ref sig .tc := ⟨.hbm, 73, rfl⟩
abbrev main_cst_1 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_cst_2 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_call3_v0 : Ref sig .tc := ⟨.hbm, 90, rfl⟩
abbrev main_call3_cst : Ref sig .tc := ⟨.hbm, 91, rfl⟩
abbrev main_call3_v1 : Ref sig .tc := ⟨.hbm, 92, rfl⟩
abbrev main_call3_v2 : Ref sig .tc := ⟨.hbm, 93, rfl⟩
abbrev main_v31 : Ref sig .tc := ⟨.hbm, 94, rfl⟩
abbrev main_cst_3 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_cst_4 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_cst_5 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_values : Ref sig .tc := ⟨.hbm, 120, rfl⟩
abbrev main_indices : Ref sig .tc := ⟨.hbm, 121, rfl⟩
abbrev main_c : Ref sig .tc := ⟨.hbm, 122, rfl⟩
abbrev main_v54 : Ref sig .tc := ⟨.hbm, 123, rfl⟩
abbrev main_v55 : Ref sig .tc := ⟨.hbm, 124, rfl⟩
abbrev main_c_6 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_cst_7 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_cst_8 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_cst_9 : Ref sig .tc := ⟨.hbm, 158, rfl⟩
abbrev main_v86 : Ref sig .tc := ⟨.hbm, 159, rfl⟩
abbrev main_cst_10 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_cst_11 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_call4_v0 : Ref sig .tc := ⟨.hbm, 173, rfl⟩
abbrev main_call4_cst : Ref sig .tc := ⟨.hbm, 174, rfl⟩
abbrev main_call4_v1 : Ref sig .tc := ⟨.hbm, 175, rfl⟩
abbrev main_call4_v2 : Ref sig .tc := ⟨.hbm, 176, rfl⟩
abbrev main_v98 : Ref sig .tc := ⟨.hbm, 177, rfl⟩
abbrev main_cst_12 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩

abbrev nD : Nat := 1
abbrev τ : Topo := Topo.v7x

variable {F : FTy → Type} [FloatOps F]
-- ==== Proof.IdealBody.lean ====
/- The idealized kernel's launch: its 25 input blocks, the values its body binds, the triple of the body, the run and the
   frame. The set-up follows the generated one; the values of the body are stated over one record of blocks. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-- The buffers that the host operations before the region write. -/
def written : List (Ref sig .tc) := [main_c, main_call0_v0, main_v0, main_c_0, main_call1_v0, main_v1, main_v2, main_c_1, main_call2_v0, main_v3, main_c_2, main_call3_v0, main_v4, main_c_3, main_call4_v0, main_v5, main_cst, main_v6, main_v7, main_v8, main_v9, main_v10, main_v11, main_v12, main_v13, main_v14, main_v15, main_v16, main_v17, main_v18, main_v19, main_v20, main_v21, main_v22, main_v23, main_v24, main_v25]

/-- A buffer that no host operation before the region writes is found there as launched. -/
theorem V_kept (c : Dev nD) (b : Ref sig .tc) (hb : ∀ w ∈ written, b ≠ w) : V m c b = m ((c : Thread nD τ).loc b) :=
  StableHlo.after_of_forall_not_mem (b := Proc.devRef .tc b) _ _ (List.forall_iff_forall_mem.mp (by
    simp only [written, List.mem_cons, List.not_mem_nil, or_false, forall_eq_or_imp, forall_eq] at hb
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by simp only [hb, ne_eq, not_false_eq_true])))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data over these arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1560000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨((h c).2 main_arg0 (Pipeline.mem_restRefs_of main_arg0 (by decide) (by decide))).trans (V_kept m c main_arg0 (by decide)),
      ((h c).2 main_arg1 (Pipeline.mem_restRefs_of main_arg1 (by decide) (by decide))).trans (V_kept m c main_arg1 (by decide)),
      ((h c).2 main_arg2 (Pipeline.mem_restRefs_of main_arg2 (by decide) (by decide))).trans (V_kept m c main_arg2 (by decide)),
      ((h c).2 main_arg3 (Pipeline.mem_restRefs_of main_arg3 (by decide) (by decide))).trans (V_kept m c main_arg3 (by decide)),
      ((h c).2 main_arg4 (Pipeline.mem_restRefs_of main_arg4 (by decide) (by decide))).trans (V_kept m c main_arg4 (by decide)),
      ((h c).2 main_arg5 (Pipeline.mem_restRefs_of main_arg5 (by decide) (by decide))).trans (V_kept m c main_arg5 (by decide)),
      ((h c).2 main_arg6 (Pipeline.mem_restRefs_of main_arg6 (by decide) (by decide))).trans (V_kept m c main_arg6 (by decide)),
      ((h c).1 10).trans (((dats 0 c).arrAt_in 10 rfl _).trans ((hA c 10).trans (V_kept m c main_arg7 (by decide)))),
      ((h c).2 main_arg8 (Pipeline.mem_restRefs_of main_arg8 (by decide) (by decide))).trans (V_kept m c main_arg8 (by decide)),
      ((h c).2 main_arg9 (Pipeline.mem_restRefs_of main_arg9 (by decide) (by decide))).trans (V_kept m c main_arg9 (by decide)),
      ((h c).2 main_arg10 (Pipeline.mem_restRefs_of main_arg10 (by decide) (by decide))).trans (V_kept m c main_arg10 (by decide)),
      ((h c).1 6).trans (((dats 0 c).arrAt_in 6 rfl _).trans ((hA c 6).trans (V_kept m c main_arg11 (by decide)))),
      ((h c).2 main_arg12 (Pipeline.mem_restRefs_of main_arg12 (by decide) (by decide))).trans (V_kept m c main_arg12 (by decide)),
      ((h c).2 main_arg13 (Pipeline.mem_restRefs_of main_arg13 (by decide) (by decide))).trans (V_kept m c main_arg13 (by decide)),
      ((h c).2 main_arg14 (Pipeline.mem_restRefs_of main_arg14 (by decide) (by decide))).trans (V_kept m c main_arg14 (by decide)),
      ((h c).2 main_arg15 (Pipeline.mem_restRefs_of main_arg15 (by decide) (by decide))).trans (V_kept m c main_arg15 (by decide)),
      ((h c).2 main_arg16 (Pipeline.mem_restRefs_of main_arg16 (by decide) (by decide))).trans (V_kept m c main_arg16 (by decide)),
      ((h c).2 main_arg17 (Pipeline.mem_restRefs_of main_arg17 (by decide) (by decide))).trans (V_kept m c main_arg17 (by decide)),
      ((h c).2 main_arg18 (Pipeline.mem_restRefs_of main_arg18 (by decide) (by decide))).trans (V_kept m c main_arg18 (by decide)),
      ((h c).2 main_arg19 (Pipeline.mem_restRefs_of main_arg19 (by decide) (by decide))).trans (V_kept m c main_arg19 (by decide)),
      ((h c).2 main_arg20 (Pipeline.mem_restRefs_of main_arg20 (by decide) (by decide))).trans (V_kept m c main_arg20 (by decide)),
      ((h c).1 21).trans (((dats 0 c).arrAt_in 21 rfl _).trans ((hA c 21).trans (V_kept m c main_arg21 (by decide)))),
      ((h c).2 main_arg22 (Pipeline.mem_restRefs_of main_arg22 (by decide) (by decide))).trans (V_kept m c main_arg22 (by decide)),
      ((h c).1 23).trans (((dats 0 c).arrAt_in 23 rfl _).trans ((hA c 23).trans (V_kept m c main_arg23 (by decide)))),
      ((h c).2 main_arg24 (Pipeline.mem_restRefs_of main_arg24 (by decide) (by decide))).trans (V_kept m c main_arg24 (by decide))⟩) h

/-! ## The body's accesses -/

abbrev r0_0 : Rect S64x128 := Rect.unit (s := S64x128) ![0, 0] S64x128.size inb_S64x128_S64x128_0_0
abbrev r0_1 : Rect S1x1x1024 := Rect.unit (s := S1x1x1024) ![0, 0, 0] S1x1x1024.size inb_S1x1x1024_S1x1x1024_0_0_0
abbrev r0_2 : Rect S1024x8 := Rect.unit (s := S1024x8) ![0, 0] S1024x8.size inb_S1024x8_S1024x8_0_0
abbrev r0_3 : Rect S8x64 := Rect.unit (s := S8x64) ![0, 0] S8x64.size inb_S8x64_S8x64_0_0
abbrev r0_4 : Rect S1x64 := Rect.unit (s := S1x64) ![0, 0] S1x64.size inb_S1x64_S1x64_0_0
abbrev r0_5 : Rect S1x128 := Rect.unit (s := S1x128) ![0, 0] S1x128.size inb_S1x128_S1x128_0_0
abbrev r0_6 : Rect S384x128 := Rect.unit (s := S384x128) ![0, 0] S384x128.size inb_S384x128_S384x128_0_0
abbrev r0_7 : Rect S128x128 := Rect.unit (s := S128x128) ![0, 0] S128x128.size inb_S128x128_S128x128_0_0
abbrev r0_8 : Rect S16x128 := Rect.unit (s := S16x128) ![0, 0] S16x128.size inb_S16x128_S16x128_0_0

/-! ## What the body leaves in each output window's buffer -/

/-! ### The values that the body binds, over the blocks of the windows -/

/-- The blocks that the 25 input windows hold at one grid point. -/
structure Blocks (F : FTy → Type) where
  x0 : Vec F S1024x8 .f32
  x1 : Vec F S1024x8 .f32
  x2 : Vec F S1x1x1024 .i32
  x3 : Vec F S64x128 .f32
  x4 : Vec F S8x64 .f32
  x5 : Vec F S1x64 .f32
  x6 : Vec F S64x128 .f32
  x7 : Vec F S1x128 .f32
  x8 : Vec F S8x64 .f32
  x9 : Vec F S1x64 .f32
  x10 : Vec F S64x128 .f32
  x11 : Vec F S1x128 .f32
  x12 : Vec F S384x128 .bf16
  x13 : Vec F S1x128 .f32
  x14 : Vec F S128x128 .bf16
  x15 : Vec F S128x128 .bf16
  x16 : Vec F S1x128 .f32
  x17 : Vec F S1x128 .f32
  x18 : Vec F S1x128 .f32
  x19 : Vec F S128x128 .bf16
  x20 : Vec F S1x128 .f32
  x21 : Vec F S128x128 .f32
  x22 : Vec F S1x128 .f32
  x23 : Vec F S128x128 .f32
  x24 : Vec F S1x128 .f32

/-- The values of the body, one after the other: each is a payload of the skeleton of earlier values and of the
    blocks. The distances are `val139`, the masks of the eight rounds `val141` to `val144` and `val146` to `val149`. -/
def val118 (X : Blocks F) : FVec F S1024x128 .f32 :=
  constant S1024x128 .f32 0x00000000#32
def val119 (X : Blocks F) : FVec F S1024x384 .bf16 :=
  k0_pay5 (k0_pay2 (View.ld X.x3 r0_0) (View.ld X.x2 r0_1)) (k0_pay3 (View.ld X.x0 r0_2) (View.ld X.x4 r0_3) (View.ld X.x5 r0_4) (View.ld X.x6 r0_0)) (k0_pay4 (View.ld X.x7 r0_5)) (View.ld X.x1 r0_2) (View.ld X.x8 r0_3) (View.ld X.x9 r0_4) (View.ld X.x10 r0_0) (View.ld X.x11 r0_5)
def val120 (X : Blocks F) : FVec F S384x128 .bf16 :=
  k0_pay6 (View.ld X.x12 r0_6)
def val121 (X : Blocks F) : FVec F S1024x128 .f32 :=
  k0_pay7 (val119 X) (val120 X) (val118 X) (View.ld X.x13 r0_5)
def val122 (X : Blocks F) : FVec F S1024x128 .bf16 :=
  k0_pay8 (val119 X) (val120 X) (val118 X) (View.ld X.x13 r0_5)
def val123 (X : Blocks F) : FVec F S1024x128 .bf16 :=
  k0_pay9 (val119 X) (val120 X) (val118 X) (View.ld X.x13 r0_5)
def val124 (X : Blocks F) : FVec F S1024x128 .f32 :=
  k0_pay10 (val119 X) (val120 X) (val118 X) (View.ld X.x13 r0_5) (View.ld X.x14 r0_7) (View.ld X.x16 r0_5)
def val125 (X : Blocks F) : FVec F S64x64 .f32 :=
  k0_pay11 (val119 X) (val120 X) (val118 X) (View.ld X.x13 r0_5)
def val126 (X : Blocks F) : FVec F S64x64 .f32 :=
  k0_pay12 (val119 X) (val120 X) (val118 X) (View.ld X.x13 r0_5)
def val127 (X : Blocks F) : FVec F S64x64 .f32 :=
  k0_pay15 (k0_pay13 (val119 X) (val120 X) (val118 X) (View.ld X.x13 r0_5)) (k0_pay14 (val119 X) (val120 X) (val118 X) (View.ld X.x13 r0_5)) (Scalar.ofBits .f32 0x40000000#32)
def val128 (X : Blocks F) : FVec F S64x64 .f32 :=
  k0_pay16 (val121 X) (val122 X)
def val129 (X : Blocks F) : FVec F S64x64 .f32 :=
  k0_pay17 (val121 X) (val122 X)
def val130 (X : Blocks F) : FVec F S64x64 .f32 :=
  k0_pay18 (val121 X) (val122 X)
def val131 (X : Blocks F) : FVec F S64x64 .f32 :=
  k0_pay19 (val121 X) (val122 X)
def val132 (X : Blocks F) : FVec F S64x64 .f32 :=
  k0_pay22 (k0_pay20 (val122 X)) (k0_pay21 (val121 X))
def val133 (X : Blocks F) : FVec F S64x64 .f32 :=
  k0_pay23 (val121 X) (val122 X)
def val134 (X : Blocks F) : FVec F S64x64 .f32 :=
  k0_pay24 (val121 X) (val122 X)
def val135 (X : Blocks F) : FVec F S64x64 .f32 :=
  k0_pay25 (val121 X) (val122 X)
def val136 (X : Blocks F) : FVec F S64x64 .f32 :=
  k0_pay26 (val122 X)
def val137 (X : Blocks F) : FVec F S64x64 .f32 :=
  k0_pay27 (val121 X)
def val138 (X : Blocks F) : IVec S64x1024 32 :=
  iota .tc S64x1024 32 [0] iota_S64x1024_d0_w32
def val139 (X : Blocks F) : FVec F S64x1024 .f32 :=
  k0_pay28 (val121 X) (val122 X) (val125 X) (val126 X) (val127 X) (val128 X) (val129 X) (val130 X) (val131 X) (val132 X) (val133 X) (val134 X) (val135 X) (val136 X) (val137 X)
def val140 (X : Blocks F) : IVec S64x1024 1 :=
  k0_pay29 (val121 X) (val122 X) (val125 X) (val126 X) (val127 X) (val128 X) (val129 X) (val130 X) (val131 X) (val132 X) (val133 X) (val134 X) (val135 X) (val136 X) (val137 X)
def val141 (X : Blocks F) : IVec S64x1024 1 :=
  k0_pay30 (val138 X) (val140 X)
def val142 (X : Blocks F) : IVec S64x1024 1 :=
  k0_pay32 (val139 X) (val138 X) (val140 X)
def val143 (X : Blocks F) : IVec S64x1024 1 :=
  k0_pay34 (val139 X) (val138 X) (val140 X)
def val144 (X : Blocks F) : IVec S64x1024 1 :=
  k0_pay36 (val139 X) (val138 X) (val140 X)
def val145 (X : Blocks F) : FVec F S64x1024 .f32 :=
  k0_pay37 (val139 X) (val138 X) (val140 X)
def val146 (X : Blocks F) : IVec S64x1024 1 :=
  k0_pay38 (val138 X) (val145 X)
def val147 (X : Blocks F) : IVec S64x1024 1 :=
  k0_pay40 (val138 X) (val145 X)
def val148 (X : Blocks F) : IVec S64x1024 1 :=
  k0_pay42 (val138 X) (val145 X)
def val149 (X : Blocks F) : IVec S64x1024 1 :=
  k0_pay43 (val138 X) (val145 X)
def val150 (X : Blocks F) : FVec F S64x512 .f32 :=
  k0_pay44 (F := F)
def val151 (X : Blocks F) : FVec F S8192x128 .f32 :=
  k0_pay103 (val122 X) (val123 X) (val124 X) (val141 X) (val142 X) (val143 X) (val144 X) (val146 X) (val147 X) (val148 X) (val149 X) (val150 X) (k0_pay45 (val122 X) (val123 X) (val141 X) (val142 X) (val143 X) (val144 X) (val146 X) (val147 X) (val148 X) (val149 X)) (k0_pay46 (val124 X)) (k0_pay53 (val122 X) (val123 X) (val148 X) (val149 X) (val150 X) (k0_pay47 (F := F) (val141 X)) (k0_pay48 (F := F) (val142 X)) (k0_pay49 (F := F) (val143 X)) (k0_pay50 (F := F) (val144 X)) (k0_pay51 (F := F) (val146 X)) (k0_pay52 (F := F) (val147 X))) (k0_pay54 (val124 X)) (k0_pay55 (val122 X) (val123 X) (val141 X) (val142 X) (val143 X) (val144 X) (val146 X) (val147 X) (val148 X) (val149 X) (val150 X)) (k0_pay56 (val124 X)) (k0_pay59 (val122 X) (val123 X) (val143 X) (val144 X) (val146 X) (val147 X) (val148 X) (val149 X) (val150 X) (k0_pay57 (F := F) (val141 X)) (k0_pay58 (F := F) (val142 X))) (k0_pay60 (val124 X)) (k0_pay63 (val123 X) (k0_pay61 (val141 X) (val142 X) (val143 X) (val144 X) (val146 X) (val147 X) (val148 X) (val149 X) (val150 X)) (k0_pay62 (val122 X) (val141 X) (val142 X) (val143 X) (val144 X) (val146 X) (val147 X) (val148 X) (val149 X) (val150 X))) (k0_pay64 (val124 X)) (k0_pay65 (val122 X) (val123 X) (val141 X) (val142 X) (val143 X) (val144 X) (val146 X) (val147 X) (val148 X) (val149 X) (val150 X)) (k0_pay66 (val124 X)) (k0_pay73 (val122 X) (val123 X) (val148 X) (val149 X) (val150 X) (k0_pay67 (F := F) (val141 X)) (k0_pay68 (F := F) (val142 X)) (k0_pay69 (F := F) (val143 X)) (k0_pay70 (F := F) (val144 X)) (k0_pay71 (F := F) (val146 X)) (k0_pay72 (F := F) (val147 X))) (k0_pay74 (val124 X)) (k0_pay75 (val122 X) (val123 X) (val141 X) (val142 X) (val143 X) (val144 X) (val146 X) (val147 X) (val148 X) (val149 X) (val150 X)) (k0_pay76 (val124 X)) (k0_pay79 (val122 X) (val123 X) (val143 X) (val144 X) (val146 X) (val147 X) (val148 X) (val149 X) (val150 X) (k0_pay77 (F := F) (val141 X)) (k0_pay78 (F := F) (val142 X))) (k0_pay80 (val124 X)) (k0_pay83 (val123 X) (k0_pay81 (val141 X) (val142 X) (val143 X) (val144 X) (val146 X) (val147 X) (val148 X) (val149 X) (val150 X)) (k0_pay82 (val122 X) (val141 X) (val142 X) (val143 X) (val144 X) (val146 X) (val147 X) (val148 X) (val149 X) (val150 X))) (k0_pay84 (val124 X)) (k0_pay85 (val122 X) (val123 X) (val141 X) (val142 X) (val143 X) (val144 X) (val146 X) (val147 X) (val148 X) (val149 X) (val150 X)) (k0_pay86 (val124 X)) (k0_pay93 (val122 X) (val123 X) (val148 X) (val149 X) (val150 X) (k0_pay87 (F := F) (val141 X)) (k0_pay88 (F := F) (val142 X)) (k0_pay89 (F := F) (val143 X)) (k0_pay90 (F := F) (val144 X)) (k0_pay91 (F := F) (val146 X)) (k0_pay92 (F := F) (val147 X))) (k0_pay94 (val124 X)) (k0_pay95 (val122 X) (val123 X) (val141 X) (val142 X) (val143 X) (val144 X) (val146 X) (val147 X) (val148 X) (val149 X) (val150 X)) (k0_pay96 (val124 X)) (k0_pay99 (val122 X) (val123 X) (val143 X) (val144 X) (val146 X) (val147 X) (val148 X) (val149 X) (val150 X) (k0_pay97 (F := F) (val141 X)) (k0_pay98 (F := F) (val142 X))) (k0_pay100 (val124 X)) (k0_pay101 (val141 X) (val142 X) (val143 X) (val144 X) (val146 X) (val147 X) (val148 X) (val149 X) (val150 X)) (k0_pay102 (val122 X) (val141 X) (val142 X) (val143 X) (val144 X) (val146 X) (val147 X) (val148 X) (val149 X) (val150 X)) (View.ld X.x15 r0_7) (View.ld X.x17 r0_5)
def val152 (X : Blocks F) : FVec F S8192x128 .f32 :=
  k0_pay104 (val151 X) (View.ld X.x18 r0_5) (View.ld X.x19 r0_7)
def val153 (X : Blocks F) : FVec F S1x128 .f32 :=
  k0_pay105 (val151 X) (View.ld X.x18 r0_5) (View.ld X.x19 r0_7)
def val154 (X : Blocks F) : FVec F S1x128 .f32 :=
  k0_pay106 (val151 X) (View.ld X.x18 r0_5) (View.ld X.x19 r0_7)
def val155 (X : Blocks F) : FVec F S1x128 .f32 :=
  k0_pay107 (val151 X) (View.ld X.x18 r0_5) (View.ld X.x19 r0_7)
def val156 (X : Blocks F) : FVec F S1x128 .f32 :=
  k0_pay108 (val151 X) (View.ld X.x18 r0_5) (View.ld X.x19 r0_7)
def val157 (X : Blocks F) : FVec F S1x128 .f32 :=
  k0_pay109 (val151 X) (View.ld X.x18 r0_5) (View.ld X.x19 r0_7)
def val158 (X : Blocks F) : FVec F S1x128 .f32 :=
  k0_pay110 (val151 X) (View.ld X.x18 r0_5) (View.ld X.x19 r0_7)
def val159 (X : Blocks F) : FVec F S1x128 .f32 :=
  k0_pay111 (val151 X) (View.ld X.x18 r0_5) (View.ld X.x19 r0_7)
def val160 (X : Blocks F) : FVec F S1x128 .f32 :=
  k0_pay112 (val151 X) (View.ld X.x18 r0_5) (View.ld X.x19 r0_7)
def val161 (X : Blocks F) : FVec F S1x128 .f32 :=
  k0_pay113 (val151 X) (View.ld X.x18 r0_5) (View.ld X.x19 r0_7)
def val162 (X : Blocks F) : FVec F S1x128 .f32 :=
  k0_pay114 (val151 X) (View.ld X.x18 r0_5) (View.ld X.x19 r0_7)
def val163 (X : Blocks F) : FVec F S1x128 .f32 :=
  k0_pay115 (val151 X) (View.ld X.x18 r0_5) (View.ld X.x19 r0_7)

/-- Window 25's staging buffer after the body, from the input windows' blocks: its 1 store as pieces, LAST
    FIRST (Lib/Pipeline/FrameBody.lean `View.canon`; the payloads are the skeleton's and the values stated above). -/
def out0_25 (X : Blocks F) : Vec F S16x128 .f32 :=
  View.canon [⟨r0_8, k0_pay1 (k0_pay116 (val152 X) (val153 X) (val154 X) (val155 X) (val156 X) (val157 X) (val158 X) (val159 X) (val160 X) (val161 X) (val162 X) (val163 X) (View.ld X.x20 r0_5) (View.ld X.x21 r0_7) (View.ld X.x22 r0_5) (View.ld X.x23 r0_7) (View.ld X.x24 r0_5)) (k0_pay117 (val152 X) (val153 X) (val154 X) (val155 X) (val156 X) (val157 X) (val158 X) (val159 X) (val160 X) (val161 X) (val162 X) (val163 X) (View.ld X.x20 r0_5) (View.ld X.x21 r0_7) (View.ld X.x22 r0_5) (View.ld X.x23 r0_7) (View.ld X.x24 r0_5))⟩]

/-- Its stores tile the buffer (checked by evaluation), so they cover it. -/
theorem cover0_25 (p0 : Vec F S16x128 .f32) (y : S16x128.Idx) :
    ∃ pc ∈ ([⟨r0_8, p0⟩] : List (View.Piece (Elt F) S16x128 .f32)), y ∈ pc.1.set :=
  View.cover_of_tiled [⟨r0_8, p0⟩] S16x128.size (by rfl) y

/-! ## The body's triple -/

seal View.read in
set_option maxHeartbeats 3026141150 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S1024x8 .f32) (harg1 : arg1.IsWhole) (arg2 : Memref sig .tc .vmem S1024x8 .f32) (harg2 : arg2.IsWhole) (arg3 : Memref sig .tc .vmem S1x1x1024 .i32) (harg3 : arg3.IsWhole) (arg4 : Memref sig .tc .vmem S64x128 .f32) (harg4 : arg4.IsWhole) (arg5 : Memref sig .tc .vmem S8x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S8x64 .f32) (harg9 : arg9.IsWhole) (arg10 : Memref sig .tc .vmem S1x64 .f32) (harg10 : arg10.IsWhole) (arg11 : Memref sig .tc .vmem S64x128 .f32) (harg11 : arg11.IsWhole) (arg12 : Memref sig .tc .vmem S1x128 .f32) (harg12 : arg12.IsWhole) (arg13 : Memref sig .tc .vmem S384x128 .bf16) (harg13 : arg13.IsWhole) (arg14 : Memref sig .tc .vmem S1x128 .f32) (harg14 : arg14.IsWhole) (arg15 : Memref sig .tc .vmem S128x128 .bf16) (harg15 : arg15.IsWhole) (arg16 : Memref sig .tc .vmem S128x128 .bf16) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S128x128 .bf16) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S128x128 .f32) (harg24 : arg24.IsWhole) (arg25 : Memref sig .tc .vmem S1x128 .f32) (harg25 : arg25.IsWhole) (arg26 : Memref sig .tc .vmem S16x128 .f32) (harg26 : arg26.IsWhole)
    (x0 : Vec F S1024x8 .f32) (x1 : Vec F S1024x8 .f32) (x2 : Vec F S1x1x1024 .i32) (x3 : Vec F S64x128 .f32) (x4 : Vec F S8x64 .f32) (x5 : Vec F S1x64 .f32) (x6 : Vec F S64x128 .f32) (x7 : Vec F S1x128 .f32) (x8 : Vec F S8x64 .f32) (x9 : Vec F S1x64 .f32) (x10 : Vec F S64x128 .f32) (x11 : Vec F S1x128 .f32) (x12 : Vec F S384x128 .bf16) (x13 : Vec F S1x128 .f32) (x14 : Vec F S128x128 .bf16) (x15 : Vec F S128x128 .bf16) (x16 : Vec F S1x128 .f32) (x17 : Vec F S1x128 .f32) (x18 : Vec F S1x128 .f32) (x19 : Vec F S128x128 .bf16) (x20 : Vec F S1x128 .f32) (x21 : Vec F S128x128 .f32) (x22 : Vec F S1x128 .f32) (x23 : Vec F S128x128 .f32) (x24 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ d, owns (c : Thread nD τ) arg26 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare (out0_25 ⟨x0, x1, x2, x3, x4, x5, x6, x7, x8, x9, x10, x11, x12, x13, x14, x15, x16, x17, x18, x19, x20, x21, x22, x23, x24⟩)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, Hk⟩
  subst hf0 hf1 hf2 hf3 hf4 hf5 hf6 hf7 hf8 hf9 hf10 hf11 hf12 hf13 hf14 hf15 hf16 hf17 hf18 hf19 hf20 hf21 hf22 hf23 hf24
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  iexists _; isplitr
  swap; · iexact H25
  ipureintro
  refine (View.read_writes_eq_canon _ _ _ (cover0_25 _)).trans ?_
  rfl

end Cert.KernelIdeal.Own

end
-- ==== Proof.IdealRun.lean ====
/- The idealized kernel's launch, continued: the proof data of the pipeline, the body obligation, the run and the frame. -/
module

public import proofs.«01_k».proof.Proof.IdealBody
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => out0_25 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t, iblk m c 23 t, iblk m c 24 t⟩
    | ⟨_ + 26, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = out0_25 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t, iblk m c 23 t, iblk m c 24 t⟩ := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t))

seal out0_25 in
set_option maxHeartbeats 3200000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 1600000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_of m ρ (dats m) (A_eq m) (run_main m ρ)

/-- The frame, with every semaphore counter at zero: the claim's own statement at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24))
      ∧ r.2.sem = fun _ => 0) :=
  θ_run_and (unchanged m ρ) ((θ_run defs _ _).mono (fun _ h => h.2) (run_main_quiescent m ρ))

end Cert.KernelIdeal.Own

end
-- ==== Proof.Host.lean ====
/- What the kernel's windows hold: the host's operations before the launch, and the blocks of each grid point. -/
module

public import proofs.«01_k».proof.Proof.IdealRun
public import Idealize.ShloMosaic.Lib.StableHlo.ReadAt
public import Idealize.ShloMosaic.Lib.Pointwise
public import Idealize.ShloMosaic.Lib.ValueIdx

@[expose] public section

set_option maxRecDepth 16384

noncomputable section

namespace Cert.KernelIdeal.Own

open Cert.KernelIdeal Cert.KernelIdeal.Gen
open Idealize.ShloMosaic Idealize.ShloMosaic.TcCoe Idealize.SL.Sem

variable (m : (ℓ : Loc nD τ sig) → Buf (Elt Ideal) ℓ)

/-- The padding: the word zero as a number. -/
theorem zero_word : (FloatOps.sitofp (F := Ideal) .f32 (0#32) : EReal) = 0 := by
  show (((0#32).toInt : ℝ) : EReal) = 0
  simp

/-- The vector of `main_v9` is `main_arg10`, as one row. -/
theorem V_v9 (c : Dev nD) (j : Fin 64) :
    (V (F := Ideal) m c main_v9 : S1x64.Idx → EReal) (ix2 0 j) = (m ((c : Thread nD τ).loc main_arg10) : S64.Idx → EReal) (ix1 j) := by
  unfold V
  after_reads_at

/-- The vector of `main_v10` is `main_arg12`, as one row. -/
theorem V_v10 (c : Dev nD) (j : Fin 128) :
    (V (F := Ideal) m c main_v10 : S1x128.Idx → EReal) (ix2 0 j) = (m ((c : Thread nD τ).loc main_arg12) : S128.Idx → EReal) (ix1 j) := by
  unfold V
  after_reads_at

/-- The vector of `main_v11` is `main_arg6`, as one row. -/
theorem V_v11 (c : Dev nD) (j : Fin 64) :
    (V (F := Ideal) m c main_v11 : S1x64.Idx → EReal) (ix2 0 j) = (m ((c : Thread nD τ).loc main_arg6) : S64.Idx → EReal) (ix1 j) := by
  unfold V
  after_reads_at

/-- The vector of `main_v12` is `main_arg8`, as one row. -/
theorem V_v12 (c : Dev nD) (j : Fin 128) :
    (V (F := Ideal) m c main_v12 : S1x128.Idx → EReal) (ix2 0 j) = (m ((c : Thread nD τ).loc main_arg8) : S128.Idx → EReal) (ix1 j) := by
  unfold V
  after_reads_at

/-- The vector of `main_v14` is `main_arg14`, as one row. -/
theorem V_v14 (c : Dev nD) (j : Fin 128) :
    (V (F := Ideal) m c main_v14 : S1x128.Idx → EReal) (ix2 0 j) = (m ((c : Thread nD τ).loc main_arg14) : S128.Idx → EReal) (ix1 j) := by
  unfold V
  after_reads_at

/-- The vector of `main_v19` is `main_arg16`, as one row. -/
theorem V_v19 (c : Dev nD) (j : Fin 128) :
    (V (F := Ideal) m c main_v19 : S1x128.Idx → EReal) (ix2 0 j) = (m ((c : Thread nD τ).loc main_arg16) : S128.Idx → EReal) (ix1 j) := by
  unfold V
  after_reads_at

/-- The vector of `main_v21` is `main_arg18`, as one row. -/
theorem V_v21 (c : Dev nD) (j : Fin 128) :
    (V (F := Ideal) m c main_v21 : S1x128.Idx → EReal) (ix2 0 j) = (m ((c : Thread nD τ).loc main_arg18) : S128.Idx → EReal) (ix1 j) := by
  unfold V
  after_reads_at

/-- The vector of `main_v23` is `main_arg20`, as one row. -/
theorem V_v23 (c : Dev nD) (j : Fin 128) :
    (V (F := Ideal) m c main_v23 : S1x128.Idx → EReal) (ix2 0 j) = (m ((c : Thread nD τ).loc main_arg20) : S128.Idx → EReal) (ix1 j) := by
  unfold V
  after_reads_at

/-- The vector of `main_v24` is `main_arg22`, as one row. -/
theorem V_v24 (c : Dev nD) (j : Fin 128) :
    (V (F := Ideal) m c main_v24 : S1x128.Idx → EReal) (ix2 0 j) = (m ((c : Thread nD τ).loc main_arg22) : S128.Idx → EReal) (ix1 j) := by
  unfold V
  after_reads_at

/-- The vector of `main_v25` is `main_arg24`, as one row. -/
theorem V_v25 (c : Dev nD) (j : Fin 128) :
    (V (F := Ideal) m c main_v25 : S1x128.Idx → EReal) (ix2 0 j) = (m ((c : Thread nD τ).loc main_arg24) : S128.Idx → EReal) (ix1 j) := by
  unfold V
  after_reads_at

/-- The matrix of `main_v13` is `main_arg13`. -/
theorem V_v13 (c : Dev nD) (i : Fin 384) (j : Fin 128) :
    (V (F := Ideal) m c main_v13 : S384x128.Idx → EReal) (ix2 i j) = (m ((c : Thread nD τ).loc main_arg13) : S384x128.Idx → EReal) (ix2 i j) := by
  unfold V
  after_reads_at

/-- The matrix of `main_v22` is `main_arg19`. -/
theorem V_v22 (c : Dev nD) (i : Fin 128) (j : Fin 128) :
    (V (F := Ideal) m c main_v22 : S128x128.Idx → EReal) (ix2 i j) = (m ((c : Thread nD τ).loc main_arg19) : S128x128.Idx → EReal) (ix2 i j) := by
  unfold V
  after_reads_at

/-- The matrix of `main_v16` is a half of `main_arg15`. -/
theorem V_v16 (c : Dev nD) (i j : Fin 128) :
    (V (F := Ideal) m c main_v16 : S128x128.Idx → EReal) (ix2 i j)
      = (m ((c : Thread nD τ).loc main_arg15) : S256x128.Idx → EReal) (ix2 ⟨i.val, by omega⟩ j) := by
  unfold V
  after_reads_at

/-- The matrix of `main_v18` is a half of `main_arg15`. -/
theorem V_v18 (c : Dev nD) (i j : Fin 128) :
    (V (F := Ideal) m c main_v18 : S128x128.Idx → EReal) (ix2 i j)
      = (m ((c : Thread nD τ).loc main_arg15) : S256x128.Idx → EReal) (ix2 ⟨128 + i.val, by omega⟩ j) := by
  unfold V
  after_reads_at

/-- The scale's row: each entry of `main_arg17` divided by the square root of 1.00001. -/
theorem V_v20 (c : Dev nD) (j : Fin 128) : (V (F := Ideal) m c main_v20 : S1x128.Idx → EReal) (ix2 0 j)
    = Ideal.div ((m ((c : Thread nD τ).loc main_arg17) : S128.Idx → EReal) (ix1 j)) (Ideal.sqrt (Ideal.ofBits .f32 0x3F800054#32)) := by
  unfold V
  after_reads_at

/-- The classes, block by block. -/
theorem V_v2 (c : Dev nD) (t : Fin 16) (p : Fin 1024) : (V (F := Ideal) m c main_v2 : S16x1x1024.Idx → BitVec 32) (ix3 t 0 p)
    = (m ((c : Thread nD τ).loc main_arg0) : S16384.Idx → BitVec 32) (ix1 ⟨t.val * 1024 + p.val, by omega⟩) := by
  unfold V
  after_reads_at

/-- The rows of `main_v0`: the three numbers of `main_arg1`, then zeros. -/
theorem V_v0 (c : Dev nD) (p : Fin 16384) (i : Fin 8) : (V (F := Ideal) m c main_v0 : S16384x8.Idx → EReal) (ix2 p i)
    = if h : i.val < 3 then (m ((c : Thread nD τ).loc main_arg1) : S16384x3.Idx → EReal) (ix2 p ⟨i.val, h⟩) else (0 : EReal) := by
  unfold V
  after_reads_at
  split <;> [rfl; exact zero_word]

/-- The rows of `main_v1`: the three numbers of `main_arg2`, then zeros. -/
theorem V_v1 (c : Dev nD) (p : Fin 16384) (i : Fin 8) : (V (F := Ideal) m c main_v1 : S16384x8.Idx → EReal) (ix2 p i)
    = if h : i.val < 3 then (m ((c : Thread nD τ).loc main_arg2) : S16384x3.Idx → EReal) (ix2 p ⟨i.val, h⟩) else (0 : EReal) := by
  unfold V
  after_reads_at
  split <;> [rfl; exact zero_word]

/-- The rows of `main_v3`: those of `main_arg4`, then zeros. -/
theorem V_v3 (c : Dev nD) (i : Fin 64) (j : Fin 128) : (V (F := Ideal) m c main_v3 : S64x128.Idx → EReal) (ix2 i j)
    = if h : i.val < 33 then (m ((c : Thread nD τ).loc main_arg4) : S33x128.Idx → EReal) (ix2 ⟨i.val, h⟩ j) else (0 : EReal) := by
  unfold V
  after_reads_at
  split <;> [rfl; exact zero_word]

/-- The rows of `main_v4`: those of `main_arg9`, then zeros. -/
theorem V_v4 (c : Dev nD) (i : Fin 8) (j : Fin 64) : (V (F := Ideal) m c main_v4 : S8x64.Idx → EReal) (ix2 i j)
    = if h : i.val < 3 then (m ((c : Thread nD τ).loc main_arg9) : S3x64.Idx → EReal) (ix2 ⟨i.val, h⟩ j) else (0 : EReal) := by
  unfold V
  after_reads_at
  split <;> [rfl; exact zero_word]

/-- The rows of `main_v5`: those of `main_arg5`, then zeros. -/
theorem V_v5 (c : Dev nD) (i : Fin 8) (j : Fin 64) : (V (F := Ideal) m c main_v5 : S8x64.Idx → EReal) (ix2 i j)
    = if h : i.val < 3 then (m ((c : Thread nD τ).loc main_arg5) : S3x64.Idx → EReal) (ix2 ⟨i.val, h⟩ j) else (0 : EReal) := by
  unfold V
  after_reads_at
  split <;> [rfl; exact zero_word]

end Cert.KernelIdeal.Own

end
-- ==== Proof.Tiles.lean ====
/- The kernel's body written cell by cell: one cell's distances, one round of the selection, one cell's differences and
   repeated rows, one cell's maximum. Each tile is stated once, for any of the sixteen cells of a grid point. -/
module

public import proofs.«01_k».proof.Proof.Gen.KernelIdeal.Skeleton

@[expose] public section

set_option maxRecDepth 16384

noncomputable section

namespace Cert.KernelIdeal.Own

open Cert.KernelIdeal.Gen
open Idealize.ShloMosaic

variable {F : FTy → Type} [FloatOps F] [Named F]

/-- A cell's 64 rows lie in the block of 1024 points. -/
theorem rowSlices (c : Fin 16) : S1024x128.Slices ![64 * c.val, 0] S64x128 := by
  revert c; decide

/-- A cell's 64 columns lie in the block of 1024 points. -/
theorem colSlices (c : Fin 16) : S64x1024.Slices ![0, 64 * c.val] S64x64 := by
  revert c; decide

/-- A cell's 512 edges lie in the block of 8192 edges. -/
theorem edgeSlices (c : Fin 16) : S8192x128.Slices ![512 * c.val, 0] S512x128 := by
  revert c; decide

/-- The 64 rows of cell `c`. -/
def rows {α : Type} (c : Fin 16) (v : S1024x128.Idx → α) : S64x128.Idx → α :=
  extractStridedSlice S64x128 ![64 * c.val, 0] v (rowSlices c)

/-- Cell `c`'s 64 by 64 distances, up to a term that is constant on each column: entry `(m, n)` is the squared length of
    row `m` less twice the product of rows `m` and `n`. -/
def cellDist (v : FVec F S1024x128 .f32) (w : FVec F S1024x128 .bf16) (c : Fin 16) : FVec F S64x64 .f32 :=
  subf
    (broadcastTo S64x64 (shapeCast S64x1 (multiReduction .add [1] S64 (mulf (rows c v) (rows c v)) 0x00000000#32
      reduces_S64x128_S64 (.inl rfl) rfl) shapeCasts_S64_S64x1) broadcasts_S64x1_S64x64)
    (mulf (broadcast S64x64 (Scalar.ofBits .f32 0x40000000#32))
      (matmul dot_S64x128_S64x128_S64x64_1_1_0_0_n_n none (rows c w) (rows c w) (constant S64x64 .f32 0x00000000#32)))

/-- All sixteen cells' distances, side by side. -/
def dist (v : FVec F S1024x128 .f32) (w : FVec F S1024x128 .bf16) : FVec F S64x1024 .f32 :=
  concatenate S64x1024 1 (List.ofFn fun c : Fin 16 => (⟨S64x64, cellDist v w c⟩ : (s : Shape) × (s.Idx → F .f32)))
    concatenates_S64x64_S64x64_S64x64_S64x64_S64x64_S64x64_S64x64_S64x64_S64x64_S64x64_S64x64_S64x64_S64x64_S64x64_S64x64_S64x64_S64x1024_d1

/-- The row number of each entry. -/
def rowIds : IVec S64x1024 32 := iota .tc S64x1024 32 [0] iota_S64x1024_d0_w32

/-- One round of the selection: marks in each column the first row that holds the column's least entry. -/
def roundMask (d : FVec F S64x1024 .f32) : IVec S64x1024 1 :=
  cmpi .eq rowIds (broadcastTo S64x1024 (shapeCast S1x1024 (multiReductionI .minsi [0] S1024
    (select (cmpf .ole d (broadcastTo S64x1024 (shapeCast S1x1024 (multiReduction .minimumf [0] S1024 d 0x7F800000#32
      reduces_S64x1024_S1024 (.inl rfl) rfl) shapeCasts_S1024_S1x1024) broadcasts_S1x1024_S64x1024))
      rowIds (broadcast S64x1024 64#32)) 2147483647#32 reduces_S64x1024_S1024 rfl)
    shapeCasts_S1024_S1x1024) broadcasts_S1x1024_S64x1024)

/-- The marked entries overwritten with the large constant. -/
def overwrite (d : FVec F S64x1024 .f32) : FVec F S64x1024 .f32 :=
  select (roundMask d) (broadcast S64x1024 (Named.named κ "big" 0x7F61B1E6#32)) d

/-- The distances after `k` rounds. -/
def distAfter (d : FVec F S64x1024 .f32) : ℕ → FVec F S64x1024 .f32
  | 0 => d
  | k + 1 => overwrite (distAfter d k)

/-- A cell's columns of a mask, as zeros and ones. -/
def maskCols (M : IVec S64x1024 1) (c : Fin 16) : FVec F S64x64 .f32 :=
  sitofp .f32 (extui 32 (extractStridedSlice S64x64 ![0, 64 * c.val] M (colSlices c)) natLt_1_32)

/-- The identity matrix of 64 rows. -/
def eyeTile : FVec F S64x64 .f32 :=
  sitofp .f32 (extui 32 (cmpi .eq (iota .tc S64x64 32 [0] iota_S64x64_d0_w32) (iota .tc S64x64 32 [1] iota_S64x64_d1_w32))
    natLt_1_32)

/-- The identity matrix, eight times side by side. -/
def eyeRep : FVec F S64x512 .f32 :=
  concatenate S64x512 1 (List.ofFn fun _ : Fin 8 => (⟨S64x64, eyeTile⟩ : (s : Shape) × (s.Idx → F .f32)))
    concatenates_S64x64_S64x64_S64x64_S64x64_S64x64_S64x64_S64x64_S64x64_S64x512_d1

/-- A cell's eight masks side by side, less the identity matrix each. -/
def pickTile (M : Fin 8 → IVec S64x1024 1) (c : Fin 16) : FVec F S64x512 .bf16 :=
  truncf .bf16 (subf (concatenate S64x512 1
    (List.ofFn fun k : Fin 8 => (⟨S64x64, maskCols (M k) c⟩ : (s : Shape) × (s.Idx → F .f32)))
    concatenates_S64x64_S64x64_S64x64_S64x64_S64x64_S64x64_S64x64_S64x64_S64x512_d1) eyeRep) bitsLt_bf16_f32

/-- A cell's 512 differences of embeddings: the product of its picking matrix with the embeddings and with what the
    cast left of them. -/
def diffTile (w lo : FVec F S1024x128 .bf16) (M : Fin 8 → IVec S64x1024 1) (c : Fin 16) : FVec F S512x128 .f32 :=
  addf (matmul dot_S64x512_S64x128_S512x128_0_0_1_1_n_n none (pickTile M c) (rows c w) (constant S512x128 .f32 0x00000000#32))
    (matmul dot_S64x512_S64x128_S512x128_0_0_1_1_n_n none (pickTile M c) (rows c lo) (constant S512x128 .f32 0x00000000#32))

/-- A cell's 64 rows, eight times one below the other. -/
def repTile (a : FVec F S1024x128 .f32) (c : Fin 16) : FVec F S512x128 .f32 :=
  concatenate S512x128 0 (List.ofFn fun _ : Fin 8 => (⟨S64x128, rows c a⟩ : (s : Shape) × (s.Idx → F .f32)))
    concatenates_S64x128_S64x128_S64x128_S64x128_S64x128_S64x128_S64x128_S64x128_S512x128_d0

/-- Sixteen tiles of 512 rows, one below the other. -/
def stackCells (f : Fin 16 → FVec F S512x128 .f32) : FVec F S8192x128 .f32 :=
  concatenate S8192x128 0 (List.ofFn fun c : Fin 16 => (⟨S512x128, f c⟩ : (s : Shape) × (s.Idx → F .f32)))
    concatenates_S512x128_S512x128_S512x128_S512x128_S512x128_S512x128_S512x128_S512x128_S512x128_S512x128_S512x128_S512x128_S512x128_S512x128_S512x128_S512x128_S8192x128_d0

/-- A row of 128 entries, seen as a vector and back. -/
def flatRow (b : FVec F S1x128 .f32) : FVec F S1x128 .f32 :=
  shapeCast S1x128 (shapeCast S128 b shapeCasts_S1x128_S128) shapeCasts_S128_S1x128

/-- The hidden layer of all edges before its shift: the repeated rows plus the product of the differences with the lower
    half of the weights, scaled column by column. -/
def edgeHidden (w lo : FVec F S1024x128 .bf16) (a : FVec F S1024x128 .f32) (M : Fin 8 → IVec S64x1024 1)
    (wb : FVec F S128x128 .bf16) (g : FVec F S1x128 .f32) : FVec F S8192x128 .f32 :=
  mulf (addf (stackCells (repTile a))
      (matmul dot_S8192x128_S128x128_S8192x128_1_0_0_1_n_n none (truncf .bf16 (stackCells (diffTile w lo M)) bitsLt_bf16_f32)
        (shapeCast S128x128 wb shapeCasts_S128x128_S128x128) (constant S8192x128 .f32 0x00000000#32)))
    (broadcastTo S8192x128 (flatRow g) broadcasts_S1x128_S8192x128)

/-- The greatest entry of each column over a cell's 512 edges. -/
def cellMax (y : FVec F S8192x128 .f32) (c : Fin 16) : FVec F S1x128 .f32 :=
  shapeCast S1x128 (multiReduction .maximumf [0] S128 (extractStridedSlice S512x128 ![512 * c.val, 0] y (edgeSlices c))
    0xFF800000#32 reduces_S512x128_S128 (.inl rfl) rfl) shapeCasts_S128_S1x128

/-- The sixteen cells' maxima, one row each. -/
def poolRows (y : FVec F S8192x128 .f32) : FVec F S16x128 .f32 :=
  concatenate S16x128 0 (List.ofFn fun c : Fin 16 => (⟨S1x128, cellMax y c⟩ : (s : Shape) × (s.Idx → F .f32)))
    concatenates_S1x128_S1x128_S1x128_S1x128_S1x128_S1x128_S1x128_S1x128_S1x128_S1x128_S1x128_S1x128_S1x128_S1x128_S1x128_S1x128_S16x128_d0

/-- The last two layers, on the sixteen rows. -/
def lastLayers (p : FVec F S16x128 .f32) (b2 : FVec F S1x128 .f32) (w1 : FVec F S128x128 .f32) (b1 : FVec F S1x128 .f32)
    (w2 : FVec F S128x128 .f32) (b : FVec F S1x128 .f32) : FVec F S16x128 .f32 :=
  addf (matmul dot_S16x128_S128x128_S16x128_1_0_0_1_n_n none
      (maximumf (addf (matmul dot_S16x128_S128x128_S16x128_1_0_0_1_n_n none
          (addf p (broadcastTo S16x128 (flatRow b2) broadcasts_S1x128_S16x128)) w1 (constant S16x128 .f32 0x00000000#32))
        (broadcastTo S16x128 (flatRow b1) broadcasts_S1x128_S16x128)) (broadcast S16x128 (Scalar.ofBits .f32 0x00000000#32)))
      w2 (constant S16x128 .f32 0x00000000#32))
    (broadcastTo S16x128 (flatRow b) broadcasts_S1x128_S16x128)

/-- The length of each of the sixteen rows. -/
def rowLengths (v : FVec F S16x128 .f32) : FVec F S16x1 .f32 :=
  sqrt (shapeCast S16x1 (multiReduction .add [1] S16 (mulf v v) 0x00000000#32 reduces_S16x128_S16 (.inl rfl) rfl)
    shapeCasts_S16_S16x1)

end Cert.KernelIdeal.Own

end
-- ==== Proof.Chain.lean ====
/- The values that the kernel's body binds, as the tiles of Tiles.lean: each equation holds by unfolding both sides. -/
module

public import proofs.«01_k».proof.Proof.Tiles
public import proofs.«01_k».proof.Proof.IdealRun

@[expose] public section

set_option maxRecDepth 16384

noncomputable section

namespace Cert.KernelIdeal.Own

open Cert.KernelIdeal.Gen
open Idealize.ShloMosaic

variable {F : FTy → Type} [FloatOps F] [Named F]

/-- The body's distances are the sixteen cells' distances side by side. -/
theorem val139_eq (X : Blocks F) : val139 X = dist (val121 X) (val122 X) := rfl

/-- The first round's mask. -/
theorem val141_eq (X : Blocks F) : val141 X = roundMask (distAfter (val139 X) 0) := rfl
/-- The second round's mask. -/
theorem val142_eq (X : Blocks F) : val142 X = roundMask (distAfter (val139 X) 1) := rfl
/-- The third round's mask. -/
theorem val143_eq (X : Blocks F) : val143 X = roundMask (distAfter (val139 X) 2) := rfl
/-- The fourth round's mask. -/
theorem val144_eq (X : Blocks F) : val144 X = roundMask (distAfter (val139 X) 3) := rfl
/-- The distances after four rounds. -/
theorem val145_eq (X : Blocks F) : val145 X = distAfter (val139 X) 4 := rfl
/-- The fifth round's mask. -/
theorem val146_eq (X : Blocks F) : val146 X = roundMask (distAfter (val139 X) 4) := rfl
/-- The sixth round's mask. -/
theorem val147_eq (X : Blocks F) : val147 X = roundMask (distAfter (val139 X) 5) := rfl
/-- The seventh round's mask. -/
theorem val148_eq (X : Blocks F) : val148 X = roundMask (distAfter (val139 X) 6) := rfl
/-- The eighth round's mask. -/
theorem val149_eq (X : Blocks F) : val149 X = roundMask (distAfter (val139 X) 7) := rfl

/-- The eight masks, one by one. -/
def maskList (m0 m1 m2 m3 m4 m5 m6 m7 : IVec S64x1024 1) : Fin 8 → IVec S64x1024 1 :=
  ![m0, m1, m2, m3, m4, m5, m6, m7]

/-- A family of masks, listed. -/
theorem maskList_of (f : ℕ → IVec S64x1024 1) : maskList (f 0) (f 1) (f 2) (f 3) (f 4) (f 5) (f 6) (f 7) = fun k : Fin 8 => f k.val := by
  funext k
  fin_cases k <;> rfl

/-- The eight masks that the body binds are the masks of the eight rounds. -/
theorem maskList_eq (X : Blocks F) :
    maskList (val141 X) (val142 X) (val143 X) (val144 X) (val146 X) (val147 X) (val148 X) (val149 X)
      = fun k : Fin 8 => roundMask (distAfter (val139 X) k.val) := by
  rw [val141_eq, val142_eq, val143_eq, val144_eq, val146_eq, val147_eq, val148_eq, val149_eq]
  exact maskList_of fun k => roundMask (distAfter (val139 X) k)

/-- The hidden layer of all edges before its shift, over any eight masks. -/
theorem val151_eq_tiles (X : Blocks F) : val151 X = edgeHidden (val122 X) (val123 X) (val124 X)
    (maskList (val141 X) (val142 X) (val143 X) (val144 X) (val146 X) (val147 X) (val148 X) (val149 X))
    (View.ld X.x15 r0_7) (View.ld X.x17 r0_5) := by
  unfold val151 val150
  generalize val122 X = w
  generalize val123 X = lo
  generalize val124 X = a
  generalize val141 X = m0
  generalize val142 X = m1
  generalize val143 X = m2
  generalize val144 X = m3
  generalize val146 X = m4
  generalize val147 X = m5
  generalize val148 X = m6
  generalize val149 X = m7
  generalize View.ld X.x15 r0_7 = wb
  generalize View.ld X.x17 r0_5 = g
  rfl

/-- The block that the body stores: the pooled rows through the last two layers, each divided by its length. -/
theorem out_eq_tiles (X : Blocks F) : out0_25 X = View.canon [⟨r0_8,
    k0_pay1 (lastLayers (poolRows (val152 X)) (View.ld X.x20 r0_5) (View.ld X.x21 r0_7) (View.ld X.x22 r0_5) (View.ld X.x23 r0_7) (View.ld X.x24 r0_5))
      (rowLengths (lastLayers (poolRows (val152 X)) (View.ld X.x20 r0_5) (View.ld X.x21 r0_7) (View.ld X.x22 r0_5) (View.ld X.x23 r0_7) (View.ld X.x24 r0_5)))⟩] := by
  unfold out0_25 val153 val154 val155 val156 val157 val158 val159 val160 val161 val162 val163 val152
  generalize val151 X = h
  generalize View.ld X.x18 r0_5 = b0
  generalize View.ld X.x19 r0_7 = w2
  generalize View.ld X.x20 r0_5 = b2
  generalize View.ld X.x21 r0_7 = l1
  generalize View.ld X.x22 r0_5 = c1
  generalize View.ld X.x23 r0_7 = l2
  generalize View.ld X.x24 r0_5 = c2
  rfl

end Cert.KernelIdeal.Own

end
-- ==== Proof.Rounds.lean ====
/-
  The nearest points by repeated minimum, and by a stable sort.

  A column of `n` distances is given.  One way to list its nearest positions is to take the first
  position that attains the minimum, raise that entry to `+∞`, and repeat; the other is to sort the
  positions stably by distance and keep the first few.  This file shows that the two lists agree as
  long as every distance is below `+∞` and fewer than `n` rounds are taken.
-/
module

public import Idealize.ShloMosaic.Lib.SortPrefix
public import Mathlib.Data.EReal.Basic

@[expose] public section

noncomputable section

namespace Cert.Own.Rounds

open Idealize.ShloMosaic

variable {n : ℕ}

/-- Position `k` comes before `k'`: smaller key, and of equal keys the lower position. -/
def lexBefore (D : Fin n → EReal) (k k' : Fin n) : Bool :=
  decide (D k < D k') || (decide (D k = D k') && decide (k < k'))

theorem lexBefore_strictTotal (D : Fin n → EReal) : StrictTotalBefore (lexBefore D) := by
  classical
  have h := StrictTotalBefore.of_key_then_position (n := n) (κ := EReal) (fun a b => decide (a < b)) D
    (fun a => by simp) (fun a b c hab hbc => by
      simp only [decide_eq_true_eq] at *; exact lt_trans hab hbc)
    (fun a b => by simp only [decide_eq_true_eq]; exact lt_trichotomy a b)
  have e : lexBefore D = fun k k' : Fin n =>
      (fun a b => decide (a < b)) (D k) (D k') || (decide (D k = D k') && decide (k < k')) := by
    funext k k'
    simp only [lexBefore]
  rw [e]
  convert h

/-- On an increasing list two comparators that agree on every pair "later element against earlier
    element" sort alike. -/
theorem stableSort_congr_increasing (R R' : Fin n → Fin n → Bool) (l : List (Fin n))
    (hl : l.Pairwise (· < ·)) (h : ∀ a b : Fin n, a < b → R b a = R' b a) :
    stableSort R l = stableSort R' l := by
  induction l with
  | nil => rfl
  | cons a l ih =>
    obtain ⟨ha, hl'⟩ := List.pairwise_cons.mp hl
    unfold stableSort
    rw [ih hl']
    exact insertBefore_congr R R' a _ fun b hb =>
      h a b (ha b ((perm_stableSort R' l).mem_iff.mp hb))

/-- Sorting the positions stably by the key alone is sorting them by the key and then the position. -/
theorem sortedFrom_key (D : Fin n → EReal) (R : Fin n → Fin n → Bool)
    (hR : ∀ k k', R k k' = decide (D k < D k')) : sortedFrom R = sortedFrom (lexBefore D) := by
  funext k
  unfold sortedFrom
  have e : sortPositions n R = sortPositions n (lexBefore D) := by
    refine stableSort_congr_increasing _ _ _ (List.pairwise_lt_finRange n) fun a b hab => ?_
    rw [hR]
    unfold lexBefore
    have : decide (b < a) = false := decide_eq_false (not_lt.mpr hab.le)
    rw [this]; simp
  rw [List.get_of_eq e]
  rfl

/-- `p` is the first position at which the column attains its minimum. -/
structure IsPick (D : Fin n → EReal) (p : Fin n) : Prop where
  le : ∀ m, D p ≤ D m
  first : ∀ m, (∀ m', D m ≤ D m') → p ≤ m

/-- The first minimiser of a column is unique. -/
theorem IsPick.unique {D : Fin n → EReal} {p q : Fin n} (hp : IsPick D p) (hq : IsPick D q) : p = q :=
  le_antisymm (hp.first q hq.le) (hq.first p hp.le)

/-- Every nonempty column has a first minimiser. -/
theorem exists_isPick [NeZero n] (D : Fin n → EReal) : ∃ p, IsPick D p := by
  classical
  obtain ⟨m, -, hm⟩ := Finset.exists_min_image (Finset.univ : Finset (Fin n)) D ⟨0, Finset.mem_univ _⟩
  have hne : (Finset.univ.filter fun q : Fin n => ∀ m', D q ≤ D m').Nonempty :=
    ⟨m, Finset.mem_filter.mpr ⟨Finset.mem_univ _, fun m' => hm m' (Finset.mem_univ _)⟩⟩
  refine ⟨_, (Finset.mem_filter.mp (Finset.min'_mem _ hne)).2, fun q hq => ?_⟩
  exact Finset.min'_le _ _ (Finset.mem_filter.mpr ⟨Finset.mem_univ _, hq⟩)

/-- The first minimiser of a column. -/
def pick [NeZero n] (D : Fin n → EReal) : Fin n := (exists_isPick D).choose

theorem pick_isPick [NeZero n] (D : Fin n → EReal) : IsPick D (pick D) := (exists_isPick D).choose_spec

/-- A column with its first minimiser raised to `+∞`. -/
def strike [NeZero n] (D : Fin n → EReal) (m : Fin n) : EReal := if m = pick D then ⊤ else D m

/-- The column after `k` rounds. -/
def after [NeZero n] (D : Fin n → EReal) : ℕ → Fin n → EReal
  | 0 => D
  | k + 1 => strike (after D k)

/-- The position that round `k` picks. -/
def nearest [NeZero n] (D : Fin n → EReal) (k : ℕ) : Fin n := pick (after D k)

variable [NeZero n]

/-- After `k` rounds the entries picked so far are `+∞` and the others unchanged. -/
theorem after_eq (D : Fin n → EReal) (k : ℕ) (m : Fin n) :
    (∃ j < k, nearest D j = m) ∧ after D k m = ⊤ ∨ (∀ j < k, nearest D j ≠ m) ∧ after D k m = D m := by
  induction k with
  | zero => exact Or.inr ⟨fun j hj => absurd hj (Nat.not_lt_zero _), rfl⟩
  | succ k ih =>
    by_cases hm : m = nearest D k
    · refine Or.inl ⟨⟨k, Nat.lt_succ_self k, hm.symm⟩, ?_⟩
      show strike (after D k) m = ⊤
      exact if_pos hm
    · have hs : after D (k + 1) m = after D k m := if_neg hm
      rcases ih with ⟨⟨j, hj, e⟩, h⟩ | ⟨hj, h⟩
      · exact Or.inl ⟨⟨j, Nat.lt_succ_of_lt hj, e⟩, hs.trans h⟩
      · refine Or.inr ⟨fun j hj' => ?_, hs.trans h⟩
        rcases Nat.lt_succ_iff_lt_or_eq.mp hj' with h1 | rfl
        · exact hj j h1
        · exact fun e => hm e.symm

/-- With every entry below `+∞` and fewer rounds than entries, a round picks a position not picked
    before, and no position still standing comes before it. -/
theorem nearest_spec (D : Fin n → EReal) (hD : ∀ m, D m < ⊤) (k : ℕ) (hk : k < n) :
    (∀ j < k, nearest D j ≠ nearest D k) ∧
      ∀ m, (∀ j < k, nearest D j ≠ m) → lexBefore D m (nearest D k) = false := by
  classical
  have hp := pick_isPick (after D k)
  obtain ⟨m₀, hm₀⟩ : ∃ m₀, ∀ j < k, nearest D j ≠ m₀ := by
    by_contra hcon
    push Not at hcon
    have hsub : (Finset.univ : Finset (Fin n)) ⊆ (Finset.range k).image (nearest D) := fun m _ => by
      obtain ⟨j, hj, e⟩ := hcon m
      exact Finset.mem_image.mpr ⟨j, Finset.mem_range.mpr hj, e⟩
    have := (Finset.card_le_card hsub).trans Finset.card_image_le
    rw [Finset.card_univ, Fintype.card_fin, Finset.card_range] at this
    omega
  have standing : ∀ m, (∀ j < k, nearest D j ≠ m) → after D k m = D m := fun m hm => by
    rcases after_eq D k m with ⟨⟨j, hj, e⟩, -⟩ | ⟨-, h⟩
    · exact absurd e (hm j hj)
    · exact h
  have hlt : after D k (nearest D k) < ⊤ := by
    refine lt_of_le_of_lt (hp.le m₀) ?_
    rw [standing m₀ hm₀]; exact hD m₀
  have hnew : ∀ j < k, nearest D j ≠ nearest D k := by
    rcases after_eq D k (nearest D k) with ⟨-, h⟩ | ⟨h, -⟩
    · exact absurd h hlt.ne
    · exact h
  refine ⟨hnew, fun m hm => ?_⟩
  have e1 := standing m hm
  have e2 := standing _ hnew
  have hle : D (nearest D k) ≤ D m := by rw [← e1, ← e2]; exact hp.le m
  unfold lexBefore
  rw [decide_eq_false (not_lt.mpr hle), Bool.false_or, Bool.and_eq_false_iff, decide_eq_false_iff_not,
    decide_eq_false_iff_not]
  by_cases heq : D m = D (nearest D k)
  · refine Or.inr (not_lt.mpr (hp.first m fun m' => ?_))
    rw [e1, heq, ← e2]; exact hp.le m'
  · exact Or.inl heq

/-- The rounds list the positions in the order of the stable sort. -/
theorem sortedFrom_eq_nearest (D : Fin n → EReal) (hD : ∀ m, D m < ⊤) (R : Fin n → Fin n → Bool)
    (hR : ∀ k k', R k k' = decide (D k < D k')) (k : ℕ) (hk : k < n) :
    sortedFrom R ⟨k, hk⟩ = nearest D k := by
  rw [sortedFrom_key D R hR]
  have key := (lexBefore_strictTotal D).sortedFrom_eq_of_prefix (k := k + 1) (by omega)
    (fun i : Fin (k + 1) => nearest D i.val) ?_ ?_ ?_ ⟨k, Nat.lt_succ_self k⟩
  · exact key
  · intro i j hij
    by_contra hne
    rcases lt_or_gt_of_ne hne with h | h
    · exact (nearest_spec D hD j.val (by omega)).1 i.val h hij
    · exact (nearest_spec D hD i.val (by omega)).1 j.val h hij.symm
  · intro i j hij
    refine (nearest_spec D hD i.val (by omega)).2 _ fun l hl => ?_
    exact (nearest_spec D hD j.val (by omega)).1 l (lt_trans hl hij)
  · intro i p hp
    exact (nearest_spec D hD i.val (by omega)).2 p fun l hl => hp ⟨l, by omega⟩

/-- The order of the rounds depends on the order of the keys only. -/
theorem nearest_congr (D E : Fin n → EReal) (hD : ∀ m, D m < ⊤) (hE : ∀ m, E m < ⊤)
    (h : ∀ m m', D m < D m' ↔ E m < E m') (k : ℕ) (hk : k < n) : nearest D k = nearest E k := by
  rw [← sortedFrom_eq_nearest D hD (fun a b => decide (D a < D b)) (fun _ _ => rfl) k hk,
    ← sortedFrom_eq_nearest E hE (fun a b => decide (D a < D b)) (fun a b => by simp [h a b]) k hk]

end Cert.Own.Rounds

end
-- ==== Proof.Spec.lean ====
/- What the cell encoder computes, as plain functions of extended reals: the embedding of one object, the eight nearest
   objects of a cell, the edge layers, the pooled maximum and the normalised output of one cell. The kernel and the
   reference are both compared with these. -/
module

public import proofs.«01_k».proof.Proof.Rounds
public import Idealize.ShloMosaic.PureOps.Ideal

@[expose] public section

noncomputable section

namespace Cert.Own

open Idealize.ShloMosaic

/-- The least length by which a row is divided. -/
def tiny : EReal := Ideal.ofBits .f32 0x2B8CBCCC#32

/-- The constant two. -/
def two : EReal := Ideal.ofBits .f32 0x40000000#32

/-- The length of a row. -/
def len {n : ℕ} (x : Fin n → EReal) : EReal := Ideal.sqrt (∑ e, x e * x e)

/-- A row divided by its length, or by `tiny` if that is larger. -/
def unitRow {n : ℕ} (x : Fin n → EReal) (d : Fin n) : EReal := Ideal.div (x d) (max (len x) tiny)

/-- One linear layer. -/
def dense {m n : ℕ} (w : Fin m → Fin n → EReal) (b : Fin n → EReal) (x : Fin m → EReal) (d : Fin n) : EReal :=
  (∑ i, x i * w i d) + b d

/-- Two linear layers with the positive part between them. -/
def mlp {l m n : ℕ} (w₁ : Fin l → Fin m → EReal) (b₁ : Fin m → EReal) (w₂ : Fin m → Fin n → EReal) (b₂ : Fin n → EReal)
    (x : Fin l → EReal) : Fin n → EReal :=
  dense w₂ b₂ fun i => max (dense w₁ b₁ x i) 0

/-- Three rows of 128 entries, one after the other. -/
def cat3 (x : Fin 3 → Fin 128 → EReal) (i : Fin 384) : EReal := x ⟨i.val / 128, by omega⟩ ⟨i.val % 128, by omega⟩

/-- Distances of a cell's rows from row `n`, up to a term that is the same for all of them. -/
def colDist (e : Fin 64 → Fin 128 → EReal) (n m : Fin 64) : EReal :=
  (∑ d, e m d * e m d) - two * ∑ d, e m d * e n d

/-- The row of the cell that round `k` chooses for row `n`. -/
def chosen (e : Fin 64 → Fin 128 → EReal) (n : Fin 64) (k : Fin 8) : Fin 64 := Rounds.nearest (colDist e n) k.val

/-- The hidden layer of the edge from row `n` to the row chosen in round `k`. -/
def hidden (wt wb : Fin 128 → Fin 128 → EReal) (b₁ g b₀ : Fin 128 → EReal) (e : Fin 64 → Fin 128 → EReal)
    (n : Fin 64) (k : Fin 8) (j : Fin 128) : EReal :=
  ((dense wt b₁ (e n) j) + ∑ d, (e (chosen e n k) d - e n d) * wb d j) * g j + b₀ j

/-- The second edge layer, without its bias. -/
def edge (wt wb : Fin 128 → Fin 128 → EReal) (b₁ g b₀ : Fin 128 → EReal) (w₂ : Fin 128 → Fin 128 → EReal)
    (e : Fin 64 → Fin 128 → EReal) (n : Fin 64) (k : Fin 8) (j : Fin 128) : EReal :=
  ∑ i, max (hidden wt wb b₁ g b₀ e n k i) 0 * w₂ i j

/-- The greatest entry of a family of extended reals. -/
def top {ι : Type} [Fintype ι] (f : ι → EReal) : EReal := Finset.univ.sup f

/-- The output row of a cell whose rows have embeddings `e`. -/
def cellOut (wt wb : Fin 128 → Fin 128 → EReal) (b₁ g b₀ : Fin 128 → EReal) (w₂ : Fin 128 → Fin 128 → EReal)
    (b₂ : Fin 128 → EReal) (l₁ : Fin 128 → Fin 128 → EReal) (c₁ : Fin 128 → EReal) (l₂ : Fin 128 → Fin 128 → EReal)
    (c₂ : Fin 128 → EReal) (e : Fin 64 → Fin 128 → EReal) : Fin 128 → EReal :=
  unitRow (mlp l₁ c₁ l₂ c₂ fun j => top (fun q : Fin 8 × Fin 64 => edge wt wb b₁ g b₀ w₂ e q.2 q.1 j) + b₂ j)

/-- The embedding of one object: its class's row of the table and the two layers of its colour and of its position, each
    of length one, merged by a linear layer. -/
def embed (mw : Fin 384 → Fin 128 → EReal) (mb : Fin 128 → EReal) (cls : Fin 128 → EReal) (col pos : Fin 128 → EReal) :
    Fin 128 → EReal :=
  dense mw mb (cat3 ![unitRow cls, unitRow col, unitRow pos])

end Cert.Own

end
-- ==== Proof.ReadTiles.lean ====
/- The kernel's tiles read entry by entry at the ideal instance. -/
module

public import proofs.«01_k».proof.Proof.Tiles
public import proofs.«01_k».proof.Proof.Spec
public import Idealize.ShloMosaic.Lib.Pointwise
public import Idealize.ShloMosaic.Lib.ValueIdx
public import Idealize.ShloMosaic.Lib.Pipeline.Value
public import Idealize.ShloMosaic.PureOps.Ideal

@[expose] public section

set_option maxRecDepth 16384

noncomputable section

namespace Cert.KernelIdeal.Own

open Cert.KernelIdeal.Gen Cert.Own
open Idealize.ShloMosaic

/-- Point `n` of cell `c` in a block of 1024 points. -/
def pt (c : Fin 16) (n : Fin 64) : Fin 1024 := ⟨64 * c.val + n.val, by omega⟩

/-- Edge `k` of point `n` within a cell: the cell's 512 edges run over the points, round by round. -/
def ed (k : Fin 8) (n : Fin 64) : Fin 512 := ⟨64 * k.val + n.val, by omega⟩

/-- Edge `r` of cell `c` in a block of 8192 edges. -/
def ce (c : Fin 16) (r : Fin 512) : Fin 8192 := ⟨512 * c.val + r.val, by omega⟩

/-- A cell's row is the block's row. -/
theorem rows_apply {α : Type} (c : Fin 16) (v : S1024x128.Idx → α) (n : Fin 64) (d : Fin 128) :
    rows c v (ix2 n d) = v (ix2 (pt c n) d) := by
  unfold rows
  pointwise
  rfl

/-- A cell's distance, as sums. -/
theorem cellDist_apply (v : FVec Ideal S1024x128 .f32) (w : FVec Ideal S1024x128 .bf16) (c : Fin 16) (m n : Fin 64) :
    cellDist v w c (ix2 m n) = (∑ d : Fin 128, v (ix2 (pt c m) d) * v (ix2 (pt c m) d))
      - two * ∑ d : Fin 128, w (ix2 (pt c m) d) * w (ix2 (pt c n) d) := by
  unfold cellDist
  pointwise
  simp only [rows_apply]
  rfl

/-- The block of distances holds each cell's distances in the cell's columns. -/
theorem dist_apply (v : FVec Ideal S1024x128 .f32) (w : FVec Ideal S1024x128 .bf16) (c : Fin 16) (m n : Fin 64) :
    dist v w (ix2 m (pt c n)) = cellDist v w c (ix2 m n) :=
  concatenate_ofFn_apply (t := S64x1024) (s₁ := S64x64) 1 (cellDist v w) _ rfl 64 rfl (ix2 m (pt c n)) c
    (by show (64 * c.val + n.val) / 64 = c.val; omega) (ix2 m n)
    (by show n.val = (64 * c.val + n.val) % 64; omega)
    (by intro b hb; fin_cases b <;> first | rfl | exact absurd rfl hb)

/-- A round's mask, entry by entry. -/
theorem roundMask_apply (d : FVec Ideal S64x1024 .f32) (m : Fin 64) (p : Fin 1024) :
    roundMask d (ix2 m p) = IntOp.cmpi .eq (BitVec.ofNat 32 m.val) (Finset.univ.fold IntOp.minsi 2147483647#32
      fun x : Fin 64 => if d (ix2 x p) ≤ Finset.univ.fold min (Ideal.ofBits .f32 2139095040#32) (fun y : Fin 64 => d (ix2 y p))
        then BitVec.ofNat 32 x.val else 64#32) := by
  unfold roundMask rowIds
  pointwise

/-- The marked entries are overwritten. -/
theorem overwrite_apply (d : FVec Ideal S64x1024 .f32) (m : Fin 64) (p : Fin 1024) :
    overwrite d (ix2 m p)
      = Scalar.select (roundMask d (ix2 m p)) (Named.named (F := Ideal) κ "big" 0x7F61B1E6#32) (d (ix2 m p)) := by
  unfold overwrite
  pointwise

/-- A mask's bit as a number. -/
theorem ofBit (b : BitVec 1) :
    (FloatOps.sitofp (F := Ideal) .f32 (BitVec.setWidth 32 b) : EReal) = if b = 1#1 then 1 else 0 := by
  show (((BitVec.setWidth 32 b).toInt : ℝ) : EReal) = _
  have h : b = 0#1 ∨ b = 1#1 := by revert b; decide
  rcases h with rfl | rfl <;> simp

/-- A cell's columns of a mask. -/
theorem maskCols_apply (M : IVec S64x1024 1) (c : Fin 16) (m n : Fin 64) :
    (maskCols (F := Ideal) M c (ix2 m n) : EReal) = if M (ix2 m (pt c n)) = 1#1 then 1 else 0 := by
  rw [← ofBit]
  unfold maskCols
  pointwise
  rfl

/-- The comparison of two small numbers as words. -/
theorem cmpi_ofNat (a b : ℕ) (ha : a < 2 ^ 32) (hb : b < 2 ^ 32) :
    IntOp.cmpi .eq (BitVec.ofNat 32 a) (BitVec.ofNat 32 b) = 1#1 ↔ a = b := by
  unfold IntOp.cmpi
  simp only []
  rw [show (1#1 : BitVec 1) = BitVec.ofBool true from rfl, BitVec.ofBool_eq_iff_eq, beq_iff_eq]
  constructor
  · intro h
    have := congrArg BitVec.toNat h
    rw [BitVec.toNat_ofNat, BitVec.toNat_ofNat, Nat.mod_eq_of_lt ha, Nat.mod_eq_of_lt hb] at this
    exact this
  · rintro rfl; rfl

/-- The identity matrix. -/
theorem eyeTile_apply (m n : Fin 64) : (eyeTile (F := Ideal) (ix2 m n) : EReal) = if m = n then 1 else 0 := by
  have e : eyeTile (F := Ideal) (ix2 m n)
      = FloatOps.sitofp (F := Ideal) .f32 (BitVec.setWidth 32 (IntOp.cmpi .eq (BitVec.ofNat 32 m.val) (BitVec.ofNat 32 n.val))) := by
    unfold eyeTile
    pointwise
  rw [e, ofBit]
  simp only [cmpi_ofNat m.val n.val (by omega) (by omega), Fin.ext_iff]

/-- The repeated identity matrix. -/
theorem eyeRep_apply (m n : Fin 64) (k : Fin 8) :
    (eyeRep (F := Ideal) (ix2 m (ed k n)) : EReal) = if m = n then 1 else 0 := by
  rw [← eyeTile_apply]
  exact concatenate_ofFn_apply (t := S64x512) (s₁ := S64x64) 1 (fun _ : Fin 8 => eyeTile (F := Ideal)) _ rfl 64 rfl
    (ix2 m (ed k n)) k
    (by show (64 * k.val + n.val) / 64 = k.val; omega) (ix2 m n)
    (by show n.val = (64 * k.val + n.val) % 64; omega)
    (by intro b hb; fin_cases b <;> first | rfl | exact absurd rfl hb)

/-- The picking matrix: round `k`'s mask less the identity. -/
theorem pickTile_apply (M : Fin 8 → IVec S64x1024 1) (c : Fin 16) (m n : Fin 64) (k : Fin 8) :
    (pickTile (F := Ideal) M c (ix2 m (ed k n)) : EReal)
      = (if M k (ix2 m (pt c n)) = 1#1 then 1 else 0) - (if m = n then 1 else 0) := by
  rw [← maskCols_apply, ← eyeRep_apply m n k]
  have e := concatenate_ofFn_apply (t := S64x512) (s₁ := S64x64) 1 (fun k : Fin 8 => maskCols (F := Ideal) (M k) c)
    concatenates_S64x64_S64x64_S64x64_S64x64_S64x64_S64x64_S64x64_S64x64_S64x512_d1 rfl 64 rfl
    (ix2 m (ed k n)) k
    (by show (64 * k.val + n.val) / 64 = k.val; omega) (ix2 m n)
    (by show n.val = (64 * k.val + n.val) % 64; omega)
    (by intro b hb; fin_cases b <;> first | rfl | exact absurd rfl hb)
  rw [← e]
  rfl

/-- A cell's differences, as sums over the cell's rows. -/
theorem diffTile_apply (w lo : FVec Ideal S1024x128 .bf16) (M : Fin 8 → IVec S64x1024 1) (c : Fin 16) (r : Fin 512) (d : Fin 128) :
    diffTile w lo M c (ix2 r d) = (∑ m : Fin 64, pickTile M c (ix2 m r) * w (ix2 (pt c m) d))
      + ∑ m : Fin 64, pickTile M c (ix2 m r) * lo (ix2 (pt c m) d) := by
  unfold diffTile
  pointwise
  simp only [rows_apply]

/-- A cell's repeated rows. -/
theorem repTile_apply (a : FVec Ideal S1024x128 .f32) (c : Fin 16) (k : Fin 8) (n : Fin 64) (d : Fin 128) :
    repTile a c (ix2 (ed k n) d) = a (ix2 (pt c n) d) := by
  refine Eq.trans (concatenate_ofFn_apply (t := S512x128) (s₁ := S64x128) 0 (fun _ : Fin 8 => rows c a) _ rfl 64 rfl
    (ix2 (ed k n) d) k
    (by show (64 * k.val + n.val) / 64 = k.val; omega) (ix2 n d)
    (by show n.val = (64 * k.val + n.val) % 64; omega)
    (by intro b hb; fin_cases b <;> first | rfl | exact absurd rfl hb)) (rows_apply c a n d)

/-- The stack of the cells' tiles. -/
theorem stackCells_apply (f : Fin 16 → FVec Ideal S512x128 .f32) (c : Fin 16) (r : Fin 512) (d : Fin 128) :
    stackCells f (ix2 (ce c r) d) = f c (ix2 r d) :=
  concatenate_ofFn_apply (t := S8192x128) (s₁ := S512x128) 0 f _ rfl 512 rfl (ix2 (ce c r) d) c
    (by show (512 * c.val + r.val) / 512 = c.val; omega) (ix2 r d)
    (by show r.val = (512 * c.val + r.val) % 512; omega)
    (by intro b hb; fin_cases b <;> first | rfl | exact absurd rfl hb)

/-- The hidden layer of the edges before its shift. -/
theorem edgeHidden_apply (w lo : FVec Ideal S1024x128 .bf16) (a : FVec Ideal S1024x128 .f32) (M : Fin 8 → IVec S64x1024 1)
    (wb : FVec Ideal S128x128 .bf16) (g : FVec Ideal S1x128 .f32) (r : Fin 8192) (j : Fin 128) :
    edgeHidden w lo a M wb g (ix2 r j) = (stackCells (repTile a) (ix2 r j)
      + ∑ d : Fin 128, stackCells (diffTile w lo M) (ix2 r d) * wb (ix2 d j)) * g (ix2 0 j) := by
  unfold edgeHidden flatRow
  pointwise

/-- The second edge layer. -/
theorem secondLayer_apply (h : FVec Ideal S8192x128 .f32) (b : Vec Ideal S1x128 .f32) (w : Vec Ideal S128x128 .bf16)
    (r : Fin 8192) (j : Fin 128) :
    k0_pay104 h b w (ix2 r j) = ∑ i : Fin 128, max (h (ix2 r i) + b (ix2 0 i)) 0 * w (ix2 i j) := by
  unfold k0_pay104
  pointwise

/-- The maximum of a cell's 512 edges. -/
theorem cellMax_apply (y : FVec Ideal S8192x128 .f32) (c : Fin 16) (j : Fin 128) :
    cellMax y c (ix2 0 j) = Finset.univ.fold max (Ideal.ofBits .f32 0xFF800000#32) (fun r : Fin 512 => y (ix2 (ce c r) j)) := by
  unfold cellMax
  pointwise
  rfl

/-- The pooled rows. -/
theorem poolRows_apply (y : FVec Ideal S8192x128 .f32) (c : Fin 16) (j : Fin 128) :
    poolRows y (ix2 c j) = cellMax y c (ix2 0 j) :=
  concatenate_ofFn_apply (t := S16x128) (s₁ := S1x128) 0 (cellMax y) _ rfl 1 rfl (ix2 c j) c
    (by show c.val / 1 = c.val; omega) (ix2 0 j)
    (by show 0 = c.val % 1; omega)
    (by intro b hb; fin_cases b <;> first | rfl | exact absurd rfl hb)

/-- The last two layers. -/
theorem lastLayers_apply (p : FVec Ideal S16x128 .f32) (b2 : FVec Ideal S1x128 .f32) (w1 : FVec Ideal S128x128 .f32) (b1 : FVec Ideal S1x128 .f32)
    (w2 : FVec Ideal S128x128 .f32) (b : FVec Ideal S1x128 .f32) (c : Fin 16) (j : Fin 128) :
    lastLayers p b2 w1 b1 w2 b (ix2 c j)
      = mlp (fun i j => w1 (ix2 i j)) (fun j => b1 (ix2 0 j)) (fun i j => w2 (ix2 i j)) (fun j => b (ix2 0 j))
          (fun j => p (ix2 c j) + b2 (ix2 0 j)) j := by
  unfold mlp dense
  unfold lastLayers flatRow
  pointwise

/-- The lengths of the output rows. -/
theorem rowLengths_apply (v : FVec Ideal S16x128 .f32) (c : Fin 16) :
    rowLengths v (ix2 c 0) = len (fun j => v (ix2 c j)) := by
  unfold len
  unfold rowLengths
  pointwise

/-- The division by the lengths. -/
theorem pay1_apply (v : FVec Ideal S16x128 .f32) (l : FVec Ideal S16x1 .f32) (c : Fin 16) (j : Fin 128) :
    k0_pay1 v l (ix2 c j) = Ideal.div (v (ix2 c j)) (max (l (ix2 c 0)) tiny) := by
  unfold tiny
  unfold k0_pay1
  pointwise

/-- The class embedding: the product of the one-hot matrix with the table's rows of length one. -/
theorem pay2_apply (v0 : Vec Ideal S64x128 .f32) (v11 : Vec Ideal S1x1x1024 .i32) (p : Fin 1024) (j : Fin 128) :
    (k0_pay2 v0 v11 (ix2 p j) : EReal) = ∑ x : Fin 64, (if IntOp.cmpi .eq (v11 (ix3 0 0 p)) (BitVec.ofNat 32 x.val) = 1#1 then 1 else 0)
      * unitRow (fun e => v0 (ix2 x e)) j := by
  simp only [← ofBit]
  unfold unitRow len tiny
  unfold k0_pay2
  pointwise

/-- The colour layers. -/
theorem pay3_apply (v20 : Vec Ideal S1024x8 .f32) (v22 : Vec Ideal S8x64 .f32) (v25 : Vec Ideal S1x64 .f32) (v32 : Vec Ideal S64x128 .f32)
    (v34 : Vec Ideal S1x128 .f32) (p : Fin 1024) (j : Fin 128) :
    k0_pay3 v20 v22 v25 v32 (ix2 p j) + k0_pay4 v34 (ix2 p j)
      = mlp (fun i j => v22 (ix2 i j)) (fun j => v25 (ix2 0 j)) (fun i j => v32 (ix2 i j)) (fun j => v34 (ix2 0 j))
          (fun i => v20 (ix2 p i)) j := by
  unfold mlp dense
  unfold k0_pay3 k0_pay4
  pointwise

/-- A block's rows, each divided by its length. -/
def unitTile (v : FVec Ideal S1024x128 .f32) : FVec Ideal S1024x128 .f32 :=
  divf v (broadcastTo S1024x128 (maximumf (sqrt (shapeCast S1024x1 (multiReduction .add [1] S1024 (mulf v v) 0x00000000#32
    reduces_S1024x128_S1024 (.inl rfl) rfl) shapeCasts_S1024_S1024x1)) (broadcast S1024x1 (Scalar.ofBits .f32 0x2B8CBCCC#32)))
    broadcasts_S1024x1_S1024x128)

/-- A block's rows of length one, entry by entry. -/
theorem unitTile_apply (v : FVec Ideal S1024x128 .f32) (p : Fin 1024) (j : Fin 128) :
    unitTile v (ix2 p j) = unitRow (fun j => v (ix2 p j)) j := by
  unfold unitRow len tiny
  unfold unitTile
  pointwise

/-- The merged embedding before the product: class, colour and position one after the other. -/
theorem pay5_apply (v19 v33 v37 : FVec Ideal S1024x128 .f32) (v47 : Vec Ideal S1024x8 .f32) (v49 : Vec Ideal S8x64 .f32)
    (v52 : Vec Ideal S1x64 .f32) (v59 : Vec Ideal S64x128 .f32) (v61 : Vec Ideal S1x128 .f32) (p : Fin 1024) (i : Fin 384) :
    k0_pay5 v19 v33 v37 v47 v49 v52 v59 v61 (ix2 p i)
      = cat3 ![fun j => v19 (ix2 p j), unitRow (fun j => v33 (ix2 p j) + v37 (ix2 p j)),
          unitRow (mlp (fun i j => v49 (ix2 i j)) (fun j => v52 (ix2 0 j)) (fun i j => v59 (ix2 i j)) (fun j => v61 (ix2 0 j))
            (fun i => v47 (ix2 p i)))] i := by
  have e := concatenate_ofFn_apply (t := S1024x384) (s₁ := S1024x128) 1
    (![v19, unitTile (addf v33 v37), unitTile (addf (k0_pay3 v47 v49 v52 v59) (k0_pay4 v61))] : Fin 3 → FVec Ideal S1024x128 .f32)
    concatenates_S1024x128_S1024x128_S1024x128_S1024x384_d1 rfl 128 rfl (ix2 p i) ⟨i.val / 128, by omega⟩ rfl
    (ix2 p ⟨i.val % 128, by omega⟩) rfl (by intro b hb; fin_cases b <;> first | rfl | exact absurd rfl hb)
  refine Eq.trans e ?_
  unfold cat3
  generalize (⟨i.val / 128, by omega⟩ : Fin 3) = q
  generalize (⟨i.val % 128, by omega⟩ : Fin 128) = d
  match q with
  | 0 => rfl
  | 1 => exact unitTile_apply _ p d
  | 2 =>
    refine (unitTile_apply _ p d).trans ?_
    refine congrArg (fun f => unitRow f d) (funext fun j => ?_)
    exact pay3_apply v47 v49 v52 v59 v61 p j

/-- The merging product. -/
theorem pay7_apply (u : FVec Ideal S1024x384 .bf16) (w : Vec Ideal S384x128 .bf16) (b : Vec Ideal S1x128 .f32) (p : Fin 1024) (d : Fin 128) :
    k0_pay7 u (k0_pay6 w) (constant S1024x128 .f32 0x00000000#32) b (ix2 p d)
      = dense (fun i d => w (ix2 i d)) (fun d => b (ix2 0 d)) (fun i => u (ix2 p i)) d := by
  unfold dense
  unfold k0_pay7 k0_pay6
  pointwise

/-- The upper half of the hidden layer. -/
theorem pay10_apply (u : FVec Ideal S1024x384 .bf16) (w : FVec Ideal S384x128 .bf16) (z : FVec Ideal S1024x128 .f32) (b : Vec Ideal S1x128 .f32)
    (wt : Vec Ideal S128x128 .bf16) (b1 : Vec Ideal S1x128 .f32) (p : Fin 1024) (j : Fin 128) :
    k0_pay10 u w z b wt b1 (ix2 p j)
      = dense (fun i d => wt (ix2 i d)) (fun d => b1 (ix2 0 d)) (fun i => k0_pay8 u w z b (ix2 p i)) j := by
  unfold dense
  unfold k0_pay10
  pointwise

end Cert.KernelIdeal.Own

end
-- ==== Proof.Masks.lean ====
/- The rounds of the selection: each mask marks, in every column, the row that the round of Rounds.lean picks. -/
module

public import proofs.«01_k».proof.Proof.ReadTiles

@[expose] public section

set_option maxRecDepth 16384

noncomputable section

namespace Cert.KernelIdeal.Own

open Cert.KernelIdeal.Gen Cert.Own Cert.Own.Rounds
open Idealize.ShloMosaic

/-- The lesser of two words, read as a signed number. -/
theorem toInt_minsi (x y : BitVec 32) : (IntOp.minsi x y).toInt = min x.toInt y.toInt := by
  unfold IntOp.minsi
  by_cases h : x.slt y
  · have := (BitVec.slt_iff_toInt_lt).mp h
    rw [if_pos h]; omega
  · have : ¬ x.toInt < y.toInt := fun h' => h (BitVec.slt_iff_toInt_lt.mpr h')
    rw [if_neg h]; omega

/-- A small number as a word, read as a signed number. -/
theorem toInt_small (x : ℕ) (h : x < 2 ^ 31) : (BitVec.ofNat 32 x).toInt = x := by
  have e : (BitVec.ofNat 32 x).toNat = x := by rw [BitVec.toNat_ofNat]; exact Nat.mod_eq_of_lt (by omega)
  rw [BitVec.toInt_eq_toNat_of_lt (by omega), e]

/-- The least row number among the rows that attain a column's minimum is the pick of the column. -/
theorem fold_pick (D : Fin 64 → EReal) :
    Finset.univ.fold IntOp.minsi 2147483647#32
      (fun x : Fin 64 => if D x ≤ Finset.univ.fold min ⊤ D then BitVec.ofNat 32 x.val else 64#32)
      = BitVec.ofNat 32 (pick D).val := by
  classical
  have hmin : ∀ x, D x ≤ Finset.univ.fold min ⊤ D ↔ ∀ y, D x ≤ D y := fun x => by
    rw [Finset.le_fold_min]
    exact ⟨fun h y => h.2 y (Finset.mem_univ _), fun h => ⟨le_top, fun y _ => h y⟩⟩
  have hp := pick_isPick D
  apply BitVec.eq_of_toInt_eq
  rw [← Finset.fold_hom (op' := min) toInt_minsi]
  have hv : ∀ x : Fin 64, (if D x ≤ Finset.univ.fold min ⊤ D then BitVec.ofNat 32 x.val else 64#32).toInt
      = if D x ≤ Finset.univ.fold min ⊤ D then (x.val : ℤ) else 64 := fun x => by
    split_ifs
    · exact toInt_small _ (by omega)
    · rfl
  have hq : (BitVec.ofNat 32 (pick D).val).toInt = ((pick D).val : ℤ) := toInt_small _ (by omega)
  have ht : (2147483647#32 : BitVec 32).toInt = 2147483647 := by decide
  simp only [hv]
  rw [hq]
  apply le_antisymm
  · refine Finset.fold_min_le _ |>.mpr (Or.inr ⟨pick D, Finset.mem_univ _, ?_⟩)
    rw [if_pos ((hmin _).mpr hp.le)]
  · refine (Finset.le_fold_min _).mpr ⟨?_, fun x _ => ?_⟩
    · refine le_trans ?_ (le_of_eq ht.symm)
      omega
    · split_ifs with h
      · have := Fin.le_def.mp (hp.first x ((hmin x).mp h))
        omega
      · omega

/-- The pattern of the minimum's start value is plus infinity. -/
theorem start_min : Ideal.ofBits .f32 2139095040#32 = ⊤ := by
  simp [Ideal.ofBits, Ideal.ieee]

/-- The constant that overwrites a chosen distance is plus infinity. -/
theorem big_top : (Named.named (F := Ideal) κ "big" 0x7F61B1E6#32 : Ideal .f32) = (⊤ : EReal) := rfl

/-- Round `k`'s mask marks row `m` of a column exactly if the round picks `m`. -/
theorem roundMask_iff (d : FVec Ideal S64x1024 .f32) (m : Fin 64) (p : Fin 1024) :
    roundMask d (ix2 m p) = 1#1 ↔ m = pick (fun m : Fin 64 => d (ix2 m p)) := by
  rw [roundMask_apply, start_min, fold_pick, cmpi_ofNat _ _ (by omega) (by omega), Fin.ext_iff]

/-- A round strikes its pick out. -/
theorem overwrite_column (d : FVec Ideal S64x1024 .f32) (p : Fin 1024) :
    (fun m : Fin 64 => overwrite d (ix2 m p)) = strike (fun m : Fin 64 => (d (ix2 m p) : EReal)) := by
  funext m
  rw [overwrite_apply, big_top]
  unfold strike Scalar.select
  by_cases h : m = pick (fun m : Fin 64 => (d (ix2 m p) : EReal))
  · rw [if_pos h]
    have := (roundMask_iff d m p).mpr h
    simp [this]
  · rw [if_neg h]
    have : ¬ roundMask d (ix2 m p) = 1#1 := fun e => h ((roundMask_iff d m p).mp e)
    simp [this]

/-- The column after `k` rounds. -/
theorem distAfter_column (d : FVec Ideal S64x1024 .f32) (k : ℕ) (p : Fin 1024) :
    (fun m : Fin 64 => distAfter d k (ix2 m p)) = after (fun m : Fin 64 => (d (ix2 m p) : EReal)) k := by
  induction k with
  | zero => rfl
  | succ k ih =>
    show (fun m : Fin 64 => overwrite (distAfter d k) (ix2 m p)) = strike _
    rw [overwrite_column]
    exact congrArg strike ih

/-- The mask of round `k` marks the row that the rounds choose. -/
theorem mask_iff (d : FVec Ideal S64x1024 .f32) (k : ℕ) (m : Fin 64) (p : Fin 1024) :
    roundMask (distAfter d k) (ix2 m p) = 1#1 ↔ m = nearest (fun m : Fin 64 => (d (ix2 m p) : EReal)) k := by
  rw [roundMask_iff]
  unfold nearest
  rw [← distAfter_column]

end Cert.KernelIdeal.Own

end
-- ==== Proof.Cell.lean ====
/- One grid point of the kernel, cell by cell: from embeddings that are real numbers, the tiles give the output rows of
   Spec.lean. -/
module

public import proofs.«01_k».proof.Proof.Masks

@[expose] public section

set_option maxRecDepth 16384

noncomputable section

namespace Cert.Own

/-- The extended reals that are real numbers. -/
def IsReal (x : EReal) : Prop := ∃ r : ℝ, x = (r : EReal)

/-- A finite sum of real numbers is their sum as extended reals. -/
theorem sum_real {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum of real numbers is a real number. -/
theorem IsReal.sum {ι : Type} (s : Finset ι) {f : ι → EReal} (h : ∀ i, IsReal (f i)) : IsReal (∑ i ∈ s, f i) := by
  choose r hr using h
  exact ⟨∑ i ∈ s, r i, by rw [← sum_real]; exact Finset.sum_congr rfl fun i _ => hr i⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A real number less itself is zero. -/
theorem IsReal.sub_self {x : EReal} (hx : IsReal x) : x - x = 0 := by
  obtain ⟨a, rfl⟩ := hx; rw [← EReal.coe_sub]; simp

/-- Picking row `s` and taking row `n` away, by a product with ones and zeros. -/
theorem pick_sum {e : Fin 64 → EReal} (he : ∀ m, IsReal (e m)) (s n : Fin 64) :
    (∑ m, ((if m = s then (1 : EReal) else 0) - (if m = n then 1 else 0)) * e m) = e s - e n := by
  choose r hr using he
  have h : ∀ m, ((if m = s then (1 : EReal) else 0) - (if m = n then 1 else 0)) * e m
      = ((((if m = s then (1 : ℝ) else 0) - (if m = n then 1 else 0)) * r m : ℝ) : EReal) := fun m => by
    rw [hr m, EReal.coe_mul, EReal.coe_sub]
    split_ifs <;> simp
  simp only [h]
  rw [sum_real, hr s, hr n, ← EReal.coe_sub]
  congr 1
  simp [sub_mul, Finset.sum_sub_distrib]

end Cert.Own

namespace Cert.KernelIdeal.Own

open Cert.KernelIdeal.Gen Cert.Own Cert.Own.Rounds
open Idealize.ShloMosaic

/-- The rows of cell `c` of a block. -/
def cellRows (E : FVec Ideal S1024x128 .f32) (c : Fin 16) (n : Fin 64) (d : Fin 128) : EReal := E (ix2 (pt c n) d)

/-- A cell's column of distances is the specification's. -/
theorem dist_column (E : FVec Ideal S1024x128 .f32) (w : FVec Ideal S1024x128 .bf16) (hw : ∀ p d, w (ix2 p d) = E (ix2 p d))
    (c : Fin 16) (n : Fin 64) :
    (fun m : Fin 64 => (dist E w (ix2 m (pt c n)) : EReal)) = colDist (cellRows E c) n := by
  funext m
  rw [dist_apply, cellDist_apply]
  simp only [hw]
  rfl

/-- A cell's difference in round `k` is that of the chosen row and the row itself. -/
theorem diff_value (E : FVec Ideal S1024x128 .f32) (w lo : FVec Ideal S1024x128 .bf16) (hE : ∀ p d, IsReal (E (ix2 p d)))
    (hw : ∀ p d, w (ix2 p d) = E (ix2 p d)) (hlo : ∀ p d, lo (ix2 p d) = (0 : EReal))
    (c : Fin 16) (k : Fin 8) (n : Fin 64) (d : Fin 128) :
    diffTile w lo (fun k => roundMask (distAfter (dist E w) k.val)) c (ix2 (ed k n) d)
      = cellRows E c (chosen (cellRows E c) n k) d - cellRows E c n d := by
  rw [diffTile_apply]
  simp only [hlo, hw, pickTile_apply, mask_iff, dist_column E w hw]
  simp only [mul_zero, Finset.sum_const_zero, add_zero]
  exact pick_sum (fun m => hE (pt c m) d) _ _

/-- The second edge layer of the kernel is the specification's. -/
theorem edge_value (E : FVec Ideal S1024x128 .f32) (w lo : FVec Ideal S1024x128 .bf16) (a : FVec Ideal S1024x128 .f32)
    (hE : ∀ p d, IsReal (E (ix2 p d))) (hw : ∀ p d, w (ix2 p d) = E (ix2 p d)) (hlo : ∀ p d, lo (ix2 p d) = (0 : EReal))
    (wt wb w2 : Fin 128 → Fin 128 → EReal) (b1 g b0 : Fin 128 → EReal)
    (ha : ∀ p j, a (ix2 p j) = dense wt b1 (fun d => E (ix2 p d)) j)
    (wb' : FVec Ideal S128x128 .bf16) (hwb : ∀ i j, wb' (ix2 i j) = wb i j)
    (g' : FVec Ideal S1x128 .f32) (hg : ∀ j, g' (ix2 0 j) = g j)
    (b0' : Vec Ideal S1x128 .f32) (hb0 : ∀ j, b0' (ix2 0 j) = b0 j)
    (w2' : Vec Ideal S128x128 .bf16) (hw2 : ∀ i j, w2' (ix2 i j) = w2 i j)
    (c : Fin 16) (k : Fin 8) (n : Fin 64) (j : Fin 128) :
    k0_pay104 (edgeHidden w lo a (fun k => roundMask (distAfter (dist E w) k.val)) wb' g') b0' w2' (ix2 (ce c (ed k n)) j)
      = edge wt wb b1 g b0 w2 (cellRows E c) n k j := by
  rw [secondLayer_apply]
  simp only [edgeHidden_apply, stackCells_apply, repTile_apply, diff_value E w lo hE hw hlo, ha, hwb, hg, hb0, hw2]
  rfl

/-- The pattern of the maximum's start value is minus infinity. -/
theorem start_max : Ideal.ofBits .f32 0xFF800000#32 = ⊥ := by
  simp [Ideal.ofBits, Ideal.ieee]

/-- Every edge of a cell belongs to a round and a row. -/
theorem ed_surj (r : Fin 512) : ∃ q : Fin 8 × Fin 64, ed q.1 q.2 = r :=
  ⟨(⟨r.val / 64, by omega⟩, ⟨r.val % 64, by omega⟩), Fin.ext (by show 64 * (r.val / 64) + r.val % 64 = r.val; omega)⟩

/-- The maximum over a cell's edges is the greatest over all rounds and rows. -/
theorem cellMax_value (y : FVec Ideal S8192x128 .f32) (c : Fin 16) (j : Fin 128) :
    cellMax y c (ix2 0 j) = top (fun q : Fin 8 × Fin 64 => y (ix2 (ce c (ed q.1 q.2)) j)) := by
  rw [cellMax_apply, start_max]
  unfold top
  show Finset.univ.sup _ = _
  apply le_antisymm
  · refine Finset.sup_le fun r _ => ?_
    obtain ⟨q, rfl⟩ := ed_surj r
    exact Finset.le_sup (f := fun q : Fin 8 × Fin 64 => (y (ix2 (ce c (ed q.1 q.2)) j) : EReal)) (Finset.mem_univ q)
  · refine Finset.sup_le fun q _ => ?_
    exact Finset.le_sup (f := fun r : Fin 512 => (y (ix2 (ce c r) j) : EReal)) (Finset.mem_univ (ed q.1 q.2))

/-- The block of output rows, from the second edge layer. -/
theorem out_value (y : FVec Ideal S8192x128 .f32) (b2 : FVec Ideal S1x128 .f32) (w1 : FVec Ideal S128x128 .f32)
    (b1 : FVec Ideal S1x128 .f32) (w2 : FVec Ideal S128x128 .f32) (b : FVec Ideal S1x128 .f32) (c : Fin 16) (j : Fin 128) :
    k0_pay1 (lastLayers (poolRows y) b2 w1 b1 w2 b) (rowLengths (lastLayers (poolRows y) b2 w1 b1 w2 b)) (ix2 c j)
      = unitRow (mlp (fun i j => w1 (ix2 i j)) (fun j => b1 (ix2 0 j)) (fun i j => w2 (ix2 i j)) (fun j => b (ix2 0 j))
          fun j => top (fun q : Fin 8 × Fin 64 => (y (ix2 (ce c (ed q.1 q.2)) j) : EReal)) + b2 (ix2 0 j)) j := by
  rw [pay1_apply, rowLengths_apply]
  simp only [lastLayers_apply, poolRows_apply, cellMax_value]
  rfl

end Cert.KernelIdeal.Own

end
-- ==== Proof.Finite.lean ====
/- Embeddings are real numbers: a row divided by its length is always one, and the merging layer keeps that. -/
module

public import proofs.«01_k».proof.Proof.Cell

@[expose] public section

noncomputable section

namespace Cert.Own

open Idealize.ShloMosaic

/-- The constant two is a real number. -/
theorem two_real : IsReal two := by
  refine ⟨2, ?_⟩
  unfold two
  simp [Ideal.ofBits, Ideal.ieee, -EReal.coe_mul]
  norm_num

/-- The lower bound of a length is a positive real number. -/
theorem tiny_real : ∃ r : ℝ, 0 < r ∧ tiny = (r : EReal) := by
  unfold tiny
  refine ⟨(9223372 : ℝ) * 2 ^ (-63 : ℤ), by positivity, ?_⟩
  simp [Ideal.ofBits, Ideal.ieee, -EReal.coe_mul]

/-- The product of a number with itself is not negative. -/
theorem sq_nonneg' (x : EReal) : 0 ≤ x * x := by
  induction x using EReal.rec with
  | bot => simp
  | top => simp
  | coe r => rw [← EReal.coe_mul]; exact EReal.coe_nonneg.mpr (mul_self_nonneg r)

/-- A row divided by its length is a row of real numbers. -/
theorem unitRow_real {n : ℕ} (x : Fin n → EReal) (d : Fin n) : IsReal (unitRow x d) := by
  obtain ⟨t, ht, et⟩ := tiny_real
  by_cases h : ∀ e, IsReal (x e)
  · choose r hr using h
    have hs : len x = ((Real.sqrt (∑ e, r e * r e) : ℝ) : EReal) := by
      unfold len
      have : (∑ e, x e * x e) = ((∑ e, r e * r e : ℝ) : EReal) := by
        rw [← sum_real]
        exact Finset.sum_congr rfl fun e _ => by rw [hr e, EReal.coe_mul]
      rw [this, Ideal.sqrt_coe, if_neg (not_lt.mpr (Finset.sum_nonneg fun e _ => mul_self_nonneg (r e)))]
    have hm : max (len x) tiny = ((max (Real.sqrt (∑ e, r e * r e)) t : ℝ) : EReal) := by
      rw [hs, et]; exact (EReal.coe_strictMono.monotone.map_max).symm
    unfold unitRow
    rw [hm, Ideal.div_coe (ne_of_gt (lt_of_lt_of_le ht (le_max_right _ _)))]
    exact IsReal.mul ⟨r d, hr d⟩ ⟨_, rfl⟩
  · obtain ⟨e, he⟩ := not_forall.mp h
    have hx : x e * x e = ⊤ := by
      revert he
      generalize x e = y
      intro he
      induction y using EReal.rec with
      | bot => simp
      | top => simp
      | coe r => exact absurd ⟨r, rfl⟩ he
    have hs : (∑ e, x e * x e) = ⊤ :=
      top_le_iff.mp (hx ▸ Finset.single_le_sum (f := fun e => x e * x e) (fun e _ => sq_nonneg' (x e)) (Finset.mem_univ e))
    refine ⟨0, ?_⟩
    unfold unitRow len
    rw [hs, Ideal.sqrt_top, max_eq_left le_top]
    unfold Ideal.div
    rw [if_neg (by simp)]
    simp

/-- Three rows of real numbers, one after the other. -/
theorem cat3_real (x : Fin 3 → Fin 128 → EReal) (h : ∀ q d, IsReal (x q d)) (i : Fin 384) : IsReal (cat3 x i) := h _ _

/-- Three rows divided by their lengths, one after the other, are real numbers. -/
theorem cat3_unit_real (x y z : Fin 128 → EReal) (i : Fin 384) : IsReal (cat3 ![unitRow x, unitRow y, unitRow z] i) := by
  refine cat3_real _ (fun q d => ?_) i
  fin_cases q <;> exact unitRow_real _ _

/-- An embedding is a row of real numbers if the merging layer's weight and bias are. -/
theorem embed_real (mw : Fin 384 → Fin 128 → EReal) (mb : Fin 128 → EReal) (hw : ∀ i j, IsReal (mw i j)) (hb : ∀ j, IsReal (mb j))
    (cls col pos : Fin 128 → EReal) (j : Fin 128) : IsReal (embed mw mb cls col pos j) :=
  IsReal.add (IsReal.sum _ fun i => IsReal.mul (cat3_unit_real cls col pos i) (hw i j)) (hb j)

/-- A real number is below infinity. -/
theorem IsReal.lt_top {x : EReal} (h : IsReal x) : x < ⊤ := by
  obtain ⟨r, rfl⟩ := h; exact EReal.coe_lt_top r

/-- The difference of real numbers is one. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The whole squared distance of two rows of real numbers is finite. -/
theorem whole_lt_top (e : Fin 64 → Fin 128 → EReal) (he : ∀ m d, IsReal (e m d)) (n m : Fin 64) :
    ((∑ d, e n d * e n d) + ∑ d, e m d * e m d) - two * ∑ d, e n d * e m d < ⊤ :=
  (((IsReal.sum _ fun d => (he n d).mul (he n d)).add (IsReal.sum _ fun d => (he m d).mul (he m d))).sub
    (two_real.mul (IsReal.sum _ fun d => (he n d).mul (he m d)))).lt_top

/-- The nearest rows by the whole squared distance are the chosen ones: the squared length of the row itself is the same
    for all of them. -/
theorem nearest_whole (e : Fin 64 → Fin 128 → EReal) (he : ∀ m d, IsReal (e m d)) (n : Fin 64) (k : Fin 8) :
    Rounds.nearest (fun m => ((∑ d, e n d * e n d) + ∑ d, e m d * e m d) - two * ∑ d, e n d * e m d) k.val = chosen e n k := by
  have hsq : ∀ m, IsReal (∑ d, e m d * e m d) := fun m => IsReal.sum _ fun d => (he m d).mul (he m d)
  have hg : ∀ m, IsReal (two * ∑ d, e m d * e n d) := fun m => two_real.mul (IsReal.sum _ fun d => (he m d).mul (he n d))
  have hc : ∀ m, (∑ d, e n d * e m d) = ∑ d, e m d * e n d := fun m => Finset.sum_congr rfl fun d _ => mul_comm _ _
  simp only [hc]
  unfold chosen
  refine Rounds.nearest_congr _ _ (fun m => (((hsq n).add (hsq m)).sub (hg m)).lt_top) (fun m => ((hsq m).sub (hg m)).lt_top)
    (fun m m' => ?_) k.val (by omega)
  obtain ⟨a, ha⟩ := hsq n
  obtain ⟨b, hb⟩ := hsq m
  obtain ⟨b', hb'⟩ := hsq m'
  obtain ⟨g, hg₁⟩ := hg m
  obtain ⟨g', hg'⟩ := hg m'
  rw [ha, hb, hb', hg₁, hg', ← EReal.coe_add, ← EReal.coe_add, ← EReal.coe_sub, ← EReal.coe_sub, ← EReal.coe_sub,
    ← EReal.coe_sub, EReal.coe_lt_coe_iff, EReal.coe_lt_coe_iff]
  constructor <;> intro h <;> linarith

/-- A constant added to every entry of a nonempty family adds to its greatest. -/
theorem top_add {ι : Type} [Fintype ι] [Nonempty ι] (f : ι → EReal) (c : EReal) : top (fun q => f q + c) = top f + c := by
  apply le_antisymm
  · exact Finset.sup_le fun q hq => add_le_add_left (Finset.le_sup (f := f) hq) c
  · obtain ⟨q, hq, e⟩ := Finset.exists_mem_eq_sup (Finset.univ : Finset ι) Finset.univ_nonempty f
    unfold top
    rw [e]
    exact Finset.le_sup (f := fun q => f q + c) hq

/-- The constant whose root divides the scale is a positive real number. -/
theorem scale_real : ∃ r : ℝ, r ≠ 0 ∧ Ideal.sqrt (Ideal.ofBits .f32 0x3F800054#32) = (r : EReal) := by
  have h : ∃ s : ℝ, 0 < s ∧ Ideal.ofBits .f32 0x3F800054#32 = (s : EReal) :=
    ⟨(8388692 : ℝ) * 2 ^ (-23 : ℤ), by positivity, by simp [Ideal.ofBits, Ideal.ieee, -EReal.coe_mul]⟩
  obtain ⟨s, hs, e⟩ := h
  refine ⟨Real.sqrt s, ne_of_gt (Real.sqrt_pos.mpr hs), ?_⟩
  rw [e, Ideal.sqrt_coe, if_neg (not_lt.mpr hs.le)]

/-- Dividing first and scaling then is scaling by the divided scale. -/
theorem scale_div (x g : EReal) : Ideal.div x (Ideal.sqrt (Ideal.ofBits .f32 0x3F800054#32)) * g
    = x * Ideal.div g (Ideal.sqrt (Ideal.ofBits .f32 0x3F800054#32)) := by
  obtain ⟨r, hr, e⟩ := scale_real
  rw [e, Ideal.div_coe hr, Ideal.div_coe hr, mul_assoc, mul_comm _ g]

end Cert.Own

end
-- ==== Proof.BlockValue.lean ====
/- The block that the kernel's body stores, entry by entry: the plain description's output row for each cell. -/
module

public import proofs.«01_k».proof.Proof.Chain
public import proofs.«01_k».proof.Proof.Finite
public import Idealize.ShloMosaic.Lib.Pipeline.ValueKit.Basic

@[expose] public section

set_option maxRecDepth 16384

noncomputable section

namespace Cert.KernelIdeal.Own

open Cert.KernelIdeal.Gen Cert.Own
open Idealize.ShloMosaic

/-- A load of a whole block reads the block. -/
theorem load_whole {S : Shape} {e : EltTy} {off : Fin S.rank → Nat} (inb : ∀ a, off a + S.size a ≤ S.size a)
    (h : ∀ a, off a = 0) (x : S.Idx → Elt Ideal e) : View.ld x (Rect.unit off S.size inb) = x :=
  View.ld_unit_lit inb x h

/-- The embeddings rounded to the narrow type are the embeddings. -/
theorem val122_apply (X : Blocks Ideal) (p : Fin 1024) (d : Fin 128) : (val122 X (ix2 p d) : EReal) = val121 X (ix2 p d) := rfl

/-- What the rounding leaves is zero. -/
theorem val123_apply (X : Blocks Ideal) (hE : ∀ p d, IsReal (val121 X (ix2 p d))) (p : Fin 1024) (d : Fin 128) :
    (val123 X (ix2 p d) : EReal) = 0 :=
  (show (val123 X (ix2 p d) : EReal) = val121 X (ix2 p d) - val121 X (ix2 p d) from rfl).trans (hE p d).sub_self

/-- The part of the hidden layer that belongs to the object itself. -/
theorem val124_apply (X : Blocks Ideal) (p : Fin 1024) (j : Fin 128) : (val124 X (ix2 p j) : EReal)
    = dense (fun i d => X.x14 (ix2 i d)) (fun d => X.x16 (ix2 0 d)) (fun d => val121 X (ix2 p d)) j := by
  unfold val124
  rw [load_whole _ (by decide) X.x14, load_whole _ (by decide) X.x16]
  exact pay10_apply (val119 X) (val120 X) (val118 X) (View.ld X.x13 r0_5) X.x14 X.x16 p j

/-- An edge of the block. -/
theorem val152_apply (X : Blocks Ideal) (hE : ∀ p d, IsReal (val121 X (ix2 p d))) (c : Fin 16) (k : Fin 8) (n : Fin 64)
    (j : Fin 128) : (val152 X (ix2 (ce c (ed k n)) j) : EReal)
    = edge (fun i d => X.x14 (ix2 i d)) (fun i d => X.x15 (ix2 i d)) (fun d => X.x16 (ix2 0 d)) (fun d => X.x17 (ix2 0 d))
        (fun d => X.x18 (ix2 0 d)) (fun i d => X.x19 (ix2 i d)) (cellRows (val121 X) c) n k j := by
  unfold val152
  rw [val151_eq_tiles, maskList_eq, val139_eq, load_whole _ (by decide) X.x15, load_whole _ (by decide) X.x17,
    load_whole _ (by decide) X.x18, load_whole _ (by decide) X.x19]
  exact edge_value (val121 X) (val122 X) (val123 X) (val124 X) hE (val122_apply X) (val123_apply X hE) _ _ _ _ _ _
    (val124_apply X) X.x15 (fun _ _ => rfl) X.x17 (fun _ => rfl) X.x18 (fun _ => rfl) X.x19 (fun _ _ => rfl) c k n j

/-- The stored block. -/
theorem out_apply (X : Blocks Ideal) (hE : ∀ p d, IsReal (val121 X (ix2 p d))) (c : Fin 16) (j : Fin 128) :
    (out0_25 X (ix2 c j) : EReal) = cellOut (fun i d => X.x14 (ix2 i d)) (fun i d => X.x15 (ix2 i d)) (fun d => X.x16 (ix2 0 d))
        (fun d => X.x17 (ix2 0 d)) (fun d => X.x18 (ix2 0 d)) (fun i d => X.x19 (ix2 i d)) (fun d => X.x20 (ix2 0 d))
        (fun i d => X.x21 (ix2 i d)) (fun d => X.x22 (ix2 0 d)) (fun i d => X.x23 (ix2 i d)) (fun d => X.x24 (ix2 0 d))
        (cellRows (val121 X) c) j := by
  rw [out_eq_tiles]
  rw [load_whole _ (by decide) X.x20, load_whole _ (by decide) X.x21, load_whole _ (by decide) X.x22,
    load_whole _ (by decide) X.x23, load_whole _ (by decide) X.x24]
  refine (congrFun (View.canon_cons_unit_lit (Val := Elt Ideal) (S := S16x128) (e := .f32) (off := ![0, 0]) inb_S16x128_S16x128_0_0
    _ [] (by decide)) (ix2 c j)).trans ?_
  refine (out_value (val152 X) X.x20 X.x21 X.x22 X.x23 X.x24 c j).trans ?_
  unfold cellOut
  simp only [val152_apply X hE]

/-- The embedding of one object of the block. -/
theorem val121_apply (X : Blocks Ideal) (p : Fin 1024) (d : Fin 128) : (val121 X (ix2 p d) : EReal)
    = dense (fun i d => X.x12 (ix2 i d)) (fun d => X.x13 (ix2 0 d)) (cat3 ![fun j => k0_pay2 (F := Ideal) X.x3 X.x2 (ix2 p j),
        unitRow (mlp (fun i j => X.x4 (ix2 i j)) (fun j => X.x5 (ix2 0 j)) (fun i j => X.x6 (ix2 i j)) (fun j => X.x7 (ix2 0 j))
          (fun i => X.x0 (ix2 p i))),
        unitRow (mlp (fun i j => X.x8 (ix2 i j)) (fun j => X.x9 (ix2 0 j)) (fun i j => X.x10 (ix2 i j)) (fun j => X.x11 (ix2 0 j))
          (fun i => X.x1 (ix2 p i)))]) d := by
  unfold val121 val120 val118 val119
  rw [load_whole _ (by decide) X.x0, load_whole _ (by decide) X.x1, load_whole _ (by decide) X.x2, load_whole _ (by decide) X.x3,
    load_whole _ (by decide) X.x4, load_whole _ (by decide) X.x5, load_whole _ (by decide) X.x6, load_whole _ (by decide) X.x7,
    load_whole _ (by decide) X.x8, load_whole _ (by decide) X.x9, load_whole _ (by decide) X.x10, load_whole _ (by decide) X.x11,
    load_whole _ (by decide) X.x12, load_whole _ (by decide) X.x13]
  refine (pay7_apply _ X.x12 X.x13 p d).trans ?_
  refine congrArg (fun f => dense (fun i d => X.x12 (ix2 i d)) (fun d => X.x13 (ix2 0 d)) f d) (funext fun i => ?_)
  refine (pay5_apply _ _ _ _ _ _ _ _ p i).trans ?_
  refine congrArg (fun f => cat3 ![fun j => k0_pay2 (F := Ideal) X.x3 X.x2 (ix2 p j), unitRow f, unitRow (mlp (fun i j => X.x8 (ix2 i j))
    (fun j => X.x9 (ix2 0 j)) (fun i j => X.x10 (ix2 i j)) (fun j => X.x11 (ix2 0 j)) (fun i => X.x1 (ix2 p i)))] i)
    (funext fun j => ?_)
  exact pay3_apply X.x0 X.x4 X.x5 X.x6 X.x7 p j

end Cert.KernelIdeal.Own

end
-- ==== Proof.RefEmb.lean ====
/- The reference's embedding of the objects, read at one entry: the class row out of the table, the colour and position
   layers, the three rows divided by their lengths and laid side by side, and the merge layer. -/
module

public import proofs.«01_k».proof.Proof.Spec
public import proofs.«01_k».proof.Proof.Gen.ReferenceIdeal.Read
public import Idealize.ShloMosaic.Lib.Pointwise
public import Idealize.ShloMosaic.Lib.ValueIdx
public import Idealize.ShloMosaic.Lib.Pipeline.Value

@[expose] public section

set_option maxRecDepth 16384

noncomputable section

namespace Cert.ReferenceIdeal.Own

open Cert.ReferenceIdeal Cert.ReferenceIdeal.Gen Cert.ReferenceIdeal.Read Cert.Own
open Idealize.ShloMosaic

/-- The arrays that the reference reads, by the number of the argument. -/
structure Args where
  x0 : IVec S16384 32
  x1 : FVec Ideal S16384x3 .f32
  x2 : FVec Ideal S16384x3 .f32
  x4 : FVec Ideal S33x128 .f32
  x5 : FVec Ideal S3x64 .f32
  x6 : FVec Ideal S64 .f32
  x7 : FVec Ideal S64x128 .f32
  x8 : FVec Ideal S128 .f32
  x9 : FVec Ideal S3x64 .f32
  x10 : FVec Ideal S64 .f32
  x11 : FVec Ideal S64x128 .f32
  x12 : FVec Ideal S128 .f32
  x13 : FVec Ideal S384x128 .f32
  x14 : FVec Ideal S128 .f32
  x15 : FVec Ideal S256x128 .f32
  x16 : FVec Ideal S128 .f32
  x17 : FVec Ideal S128 .f32
  x18 : FVec Ideal S128 .f32
  x19 : FVec Ideal S128x128 .f32
  x20 : FVec Ideal S128 .f32
  x21 : FVec Ideal S128x128 .f32
  x22 : FVec Ideal S128 .f32
  x23 : FVec Ideal S128x128 .f32
  x24 : FVec Ideal S128 .f32

/-- The class rows taken out of the table. -/
def clsRow (A : Args) : FVec Ideal S16384x128 .f32 :=
  val_main_v0 (F := Ideal) A.x0 A.x4

/-- The colour layers. -/
def colRow (A : Args) : FVec Ideal S16384x128 .f32 :=
  val_main_v15 (F := Ideal) A.x1 A.x9 A.x10 A.x11 A.x12

/-- The position layers. -/
def posRow (A : Args) : FVec Ideal S16384x128 .f32 :=
  val_main_v30 (F := Ideal) A.x2 A.x5 A.x6 A.x7 A.x8

/-- The three normalised rows side by side. -/
def side (A : Args) : FVec Ideal S16384x384 .f32 :=
  val_main_v36 (F := Ideal) A.x0 A.x1 A.x2 A.x4 A.x5 A.x6 A.x7 A.x8 A.x9 A.x10 A.x11 A.x12

/-- The embeddings. -/
def emb (A : Args) : FVec Ideal S16384x128 .f32 :=
  val_main_v40 (F := Ideal) A.x0 A.x1 A.x2 A.x4 A.x5 A.x6 A.x7 A.x8 A.x9 A.x10 A.x11 A.x12 A.x13 A.x14

/-- A matrix as a function of its two coordinates. -/
def mat {r c : Nat} (w : (⟨2, ![r, c]⟩ : Shape).Idx → EReal) (i : Fin r) (j : Fin c) : EReal := w (ix2 i j)

/-- A vector as a function of its coordinate. -/
def vec {r : Nat} (b : (⟨1, ![r]⟩ : Shape).Idx → EReal) (j : Fin r) : EReal := b (ix1 j)

/-- The colour layers of one object. -/
theorem colRow_apply (A : Args) (p : Fin 16384) (j : Fin 128) :
    colRow A (ix2 p j) = mlp (mat A.x9) (vec A.x10) (mat A.x11) (vec A.x12) (fun i => A.x1 (ix2 p i)) j := by
  unfold mlp dense mat vec colRow
  unfold val_main_v15 val_main_v12 val_main_v11 val_main_v9 val_main_v6 val_main_v8 val_main_v7 val_main_v10
    val_main_cst_0 val_main_v14 val_main_v13
  pointwise

/-- The position layers of one object. -/
theorem posRow_apply (A : Args) (p : Fin 16384) (j : Fin 128) :
    posRow A (ix2 p j) = mlp (mat A.x5) (vec A.x6) (mat A.x7) (vec A.x8) (fun i => A.x2 (ix2 p i)) j := by
  unfold mlp dense mat vec posRow
  unfold val_main_v30 val_main_v27 val_main_v26 val_main_v24 val_main_v21 val_main_v23 val_main_v22 val_main_v25
    val_main_cst_2 val_main_v29 val_main_v28
  pointwise

/-- The class row of one object divided by its length. -/
theorem clsUnit_apply (A : Args) (p : Fin 16384) (j : Fin 128) :
    val_main_v5 (F := Ideal) A.x0 A.x4 (ix2 p j) = unitRow (fun i => clsRow A (ix2 p i)) j := by
  unfold val_main_v5 val_main_v4 val_main_v3 val_main_v1 val_main_call1_v2 val_main_call1_v1 val_main_call1_v0
    val_main_call1_cst val_main_v2 val_main_cst
  unfold unitRow len tiny clsRow
  pointwise

/-- The colour row of one object divided by its length. -/
theorem colUnit_apply (A : Args) (p : Fin 16384) (j : Fin 128) :
    val_main_v20 (F := Ideal) A.x1 A.x9 A.x10 A.x11 A.x12 (ix2 p j) = unitRow (fun i => colRow A (ix2 p i)) j := by
  unfold val_main_v20 val_main_v19 val_main_v18 val_main_v16 val_main_call2_v2 val_main_call2_v1
    val_main_call2_v0 val_main_call2_cst val_main_v17 val_main_cst_1
  unfold unitRow len tiny colRow
  pointwise

/-- The position row of one object divided by its length. -/
theorem posUnit_apply (A : Args) (p : Fin 16384) (j : Fin 128) :
    val_main_v35 (F := Ideal) A.x2 A.x5 A.x6 A.x7 A.x8 (ix2 p j) = unitRow (fun i => posRow A (ix2 p i)) j := by
  unfold val_main_v35 val_main_v34 val_main_v33 val_main_v31 val_main_call3_v2 val_main_call3_v1
    val_main_call3_v0 val_main_call3_cst val_main_v32 val_main_cst_3
  unfold unitRow len tiny posRow
  pointwise

/-- The three rows of one object, side by side. -/
theorem side_apply (A : Args) (p : Fin 16384) (j : Fin 384) :
    side A (ix2 p j) = cat3 ![unitRow fun i => clsRow A (ix2 p i), unitRow fun i => colRow A (ix2 p i),
      unitRow fun i => posRow A (ix2 p i)] j := by
  unfold side val_main_v36
  have e : ∀ (x y z : S16384x128.Idx → EReal), concatenate S16384x384 1 [⟨S16384x128, x⟩, ⟨S16384x128, y⟩, ⟨S16384x128, z⟩]
      concatenates_S16384x128_S16384x128_S16384x128_S16384x384_d1 (ix2 p j)
      = ![x, y, z] ⟨j.val / 128, by omega⟩ (ix2 p ⟨j.val % 128, by omega⟩) := fun x y z =>
    Eq.trans (congrFun (by rfl) _) (concatenate_ofFn_apply (t := S16384x384) (s₁ := S16384x128) 1 ![x, y, z]
      concatenates_S16384x128_S16384x128_S16384x128_S16384x384_d1 rfl 128 rfl (ix2 p j) ⟨j.val / 128, by omega⟩
      rfl (ix2 p ⟨j.val % 128, by omega⟩) rfl
      (by intro b hb; fin_cases b <;> first | rfl | exact absurd rfl hb))
  refine (e _ _ _).trans ?_
  unfold cat3
  have h : j.val / 128 < 3 := by omega
  generalize (⟨j.val / 128, _⟩ : Fin 3) = q
  generalize (⟨j.val % 128, _⟩ : Fin 128) = i
  have key : ∀ (x y z : S16384x128.Idx → EReal) (x' y' z' : Fin 128 → EReal), x (ix2 p i) = x' i → y (ix2 p i) = y' i →
      z (ix2 p i) = z' i → ![x, y, z] q (ix2 p i) = ![x', y', z'] q i := fun x y z x' y' z' hx hy hz => by
    match q with
    | ⟨0, _⟩ => exact hx
    | ⟨1, _⟩ => exact hy
    | ⟨2, _⟩ => exact hz
  exact key _ _ _ _ _ _ (clsUnit_apply A p i) (colUnit_apply A p i) (posUnit_apply A p i)

/-- The merge layer of one object. -/
theorem emb_apply (A : Args) (p : Fin 16384) (j : Fin 128) :
    emb A (ix2 p j) = dense (mat A.x13) (vec A.x14) (fun i => side A (ix2 p i)) j := by
  unfold emb dense mat vec side
  unfold val_main_v40 val_main_v37 val_main_v39 val_main_v38
  pointwise

/-- The rows that the table's gather takes, one entry. -/
theorem takeRow_apply (x : S33x128.Idx → EReal) (idx : IVec S16384x1 32) (p : Fin 16384) (j : Fin 128) (q : Fin 33)
    (h : min (idx (ix2 p 0)).toInt.toNat 32 = q.val) :
    Host.gather gather_S33x128_S16384x1_S16384x128_1_0_n_n_0_1_1128 x idx (ix2 p j) = x (ix2 q j) := by
  have e : ∀ k, gather_S33x128_S16384x1_S16384x128_1_0_n_n_0_1_1128.siIdx (ix2 p j) k = ix2 p 0 := fun k => by
    have hk : k = ⟨0, Nat.one_pos⟩ := Fin.ext (Nat.lt_one_iff.mp k.isLt)
    subst hk
    funext b
    match b with
    | ⟨0, _⟩ => rfl
    | ⟨1, _⟩ => rfl
  refine congrArg x (funext fun a => ?_)
  match a with
  | ⟨0, _⟩ =>
    refine Fin.ext (Eq.trans ?_ h)
    rw [← e ⟨0, Nat.one_pos⟩]
    rfl
  | ⟨1, _⟩ => exact Fin.ext (Eq.trans (by rfl) (Nat.zero_add j.val))

/-- The row number that the gather is given is the class. -/
theorem classWord_apply (A : Args) (p : Fin 16384) (h₀ : 0 ≤ (A.x0 (ix1 p)).toInt) :
    val_main_call0_v5 (F := Ideal) A.x0 (ix2 p 0) = A.x0 (ix1 p) := by
  unfold val_main_call0_v5 val_main_call0_v4 val_main_call0_v1 val_main_call0_v0 val_main_call0_c
    val_main_call0_v3 val_main_call0_v2 val_main_call0_c_0
  pointwise
  have h : IntOp.cmpi .slt (A.x0 (ix1 p)) 0#32 = 0#1 := by
    show BitVec.ofBool ((A.x0 (ix1 p)).slt 0#32) = 0#1
    rw [BitVec.slt_eq_decide]
    have : ¬ (A.x0 (ix1 p)).toInt < (0#32 : BitVec 32).toInt := by simpa using h₀
    rw [decide_eq_false this]; rfl
  rw [h]; rfl

/-- A class within the table passes the reference's bounds. -/
theorem inBounds_apply (A : Args) (p : Fin 16384) (h₀ : 0 ≤ (A.x0 (ix1 p)).toInt) (h₁ : (A.x0 (ix1 p)).toInt < 33) :
    val_main_call0_v12 (F := Ideal) A.x0 (ix1 p) = 1#1 := by
  unfold val_main_call0_v12 val_main_call0_v11 val_main_call0_v7 val_main_call0_v6 val_main_call0_c_2
    val_main_call0_v10 val_main_call0_v9 val_main_call0_v8 val_main_call0_c_1 val_main_call0_c_3
  pointwise
  have a : IntOp.cmpi .sge (A.x0 (ix1 p)) 0#32 = 1#1 := by
    show BitVec.ofBool ((0#32 : BitVec 32).sle (A.x0 (ix1 p))) = 1#1
    rw [BitVec.sle_eq_decide]
    have : (0#32 : BitVec 32).toInt ≤ (A.x0 (ix1 p)).toInt := by simpa using h₀
    rw [decide_eq_true this]; rfl
  have b : IntOp.cmpi .sle (A.x0 (ix1 p)) 32#32 = 1#1 := by
    show BitVec.ofBool ((A.x0 (ix1 p)).sle 32#32) = 1#1
    rw [BitVec.sle_eq_decide]
    have e : (32#32 : BitVec 32).toInt = 32 := by decide
    have : (A.x0 (ix1 p)).toInt ≤ (32#32 : BitVec 32).toInt := by rw [e]; omega
    rw [decide_eq_true this]; rfl
  have e : ∀ x : Fin 1, val_main_call0_v5 (F := Ideal) A.x0 (ix2 p x) = A.x0 (ix1 p) := fun x => by
    rw [Subsingleton.elim x 0]; exact classWord_apply A p h₀
  simp only [e, a, b]
  decide

/-- The class row of one object is the row of the table that its class names, for a class within the table. -/
theorem clsRow_apply (A : Args) (p : Fin 16384) (j : Fin 128) (h₀ : 0 ≤ (A.x0 (ix1 p)).toInt)
    (h₁ : (A.x0 (ix1 p)).toInt < 33) :
    clsRow A (ix2 p j) = A.x4 (ix2 ⟨(A.x0 (ix1 p)).toInt.toNat, by omega⟩ j) := by
  have e : val_main_call0_v13 (F := Ideal) A.x0 A.x4 (ix2 p j)
      = A.x4 (ix2 ⟨(A.x0 (ix1 p)).toInt.toNat, by omega⟩ j) := by
    unfold val_main_call0_v13
    refine takeRow_apply _ _ p j _ ?_
    rw [classWord_apply A p h₀]
    show _ = (A.x0 (ix1 p)).toInt.toNat
    omega
  unfold clsRow
  unfold val_main_v0 val_main_call0_v14 val_main_call0_v15 val_main_call0_cst
  pointwise
  rw [inBounds_apply A p h₀ h₁, e]
  rfl

end Cert.ReferenceIdeal.Own
end
-- ==== Proof.RefRead.lean ====
/- The reference's cells, read at one entry: distances between the objects of a cell, the eight nearest, the edge layers
   and the pooled maximum. -/
module

public import proofs.«01_k».proof.Proof.RefEmb
public import Idealize.ShloMosaic.Lib.Pointwise
public import Idealize.ShloMosaic.Lib.ValueIdx
public import Idealize.ShloMosaic.Lib.Pipeline.Value

@[expose] public section

set_option maxRecDepth 16384

noncomputable section

namespace Cert.ReferenceIdeal.Own

open Cert.ReferenceIdeal Cert.ReferenceIdeal.Gen Cert.ReferenceIdeal.Read Cert.Own
open Idealize.ShloMosaic

/-- Object `n` of cell `b`. -/
def obj (b : Fin 256) (n : Fin 64) : Fin 16384 := ⟨64 * b.val + n.val, by omega⟩

/-- The embeddings, cell by cell. -/
def xs (A : Args) : FVec Ideal S256x64x128 .f32 :=
  val_main_v41 (F := Ideal) A.x0 A.x1 A.x2 A.x4 A.x5 A.x6 A.x7 A.x8 A.x9 A.x10 A.x11 A.x12 A.x13 A.x14

/-- The distances within each cell, negated. -/
def negDist (A : Args) : FVec Ideal S256x64x64 .f32 :=
  val_main_v53 (F := Ideal) A.x0 A.x1 A.x2 A.x4 A.x5 A.x6 A.x7 A.x8 A.x9 A.x10 A.x11 A.x12 A.x13 A.x14

/-- The numbers of the nearest objects. -/
def ids (A : Args) : IVec S256x64x8 32 :=
  val_main_indices (F := Ideal) A.x0 A.x1 A.x2 A.x4 A.x5 A.x6 A.x7 A.x8 A.x9 A.x10 A.x11 A.x12 A.x13 A.x14

/-- The embeddings of the nearest objects. -/
def nbr (A : Args) : FVec Ideal S256x64x8x128 .f32 :=
  val_main_v60 (F := Ideal) A.x0 A.x1 A.x2 A.x4 A.x5 A.x6 A.x7 A.x8 A.x9 A.x10 A.x11 A.x12 A.x13 A.x14

/-- Each object beside its differences to the nearest ones. -/
def pair (A : Args) : FVec Ideal S256x64x8x256 .f32 :=
  val_main_v65 (F := Ideal) A.x0 A.x1 A.x2 A.x4 A.x5 A.x6 A.x7 A.x8 A.x9 A.x10 A.x11 A.x12 A.x13 A.x14

/-- The hidden layer of the edges. -/
def hid (A : Args) : FVec Ideal S256x64x8x128 .f32 :=
  val_main_v79 (F := Ideal) A.x0 A.x1 A.x2 A.x4 A.x5 A.x6 A.x7 A.x8 A.x9 A.x10 A.x11 A.x12 A.x13 A.x14 A.x15 A.x16 A.x17 A.x18

/-- The second layer of the edges. -/
def edges (A : Args) : FVec Ideal S256x64x8x128 .f32 :=
  val_main_v85 (F := Ideal) A.x0 A.x1 A.x2 A.x4 A.x5 A.x6 A.x7 A.x8 A.x9 A.x10 A.x11 A.x12 A.x13 A.x14 A.x15 A.x16 A.x17 A.x18 A.x19 A.x20

/-- The pooled maximum of each cell. -/
def pooled (A : Args) : FVec Ideal S256x128 .f32 :=
  val_main_v87 (F := Ideal) A.x0 A.x1 A.x2 A.x4 A.x5 A.x6 A.x7 A.x8 A.x9 A.x10 A.x11 A.x12 A.x13 A.x14 A.x15 A.x16 A.x17 A.x18 A.x19 A.x20

/-- The last layers. -/
def lastRow (A : Args) : FVec Ideal S256x128 .f32 :=
  val_main_v97 (F := Ideal) A.x0 A.x1 A.x2 A.x4 A.x5 A.x6 A.x7 A.x8 A.x9 A.x10 A.x11 A.x12 A.x13 A.x14 A.x15 A.x16 A.x17 A.x18 A.x19 A.x20 A.x21 A.x22 A.x23 A.x24

/-- The result. -/
def res (A : Args) : FVec Ideal S256x128 .f32 :=
  val_main_v102 (F := Ideal) A.x0 A.x1 A.x2 A.x4 A.x5 A.x6 A.x7 A.x8 A.x9 A.x10 A.x11 A.x12 A.x13 A.x14 A.x15 A.x16 A.x17 A.x18 A.x19 A.x20 A.x21 A.x22 A.x23 A.x24

/-- The embeddings of cell `b`. -/
def cell (A : Args) (b : Fin 256) (n : Fin 64) (d : Fin 128) : EReal := emb A (ix2 (obj b n) d)

/-- The embeddings, cell by cell. -/
theorem xs_apply (A : Args) (b : Fin 256) (n : Fin 64) (d : Fin 128) : xs A (ix3 b n d) = cell A b n d := by
  unfold xs cell
  unfold val_main_v41
  show shapeCast _ (emb A) _ _ = _
  generalize emb A = v
  have e : obj b n = ⟨b.val * 64 + n.val, by omega⟩ := Fin.ext (by show 64 * b.val + n.val = b.val * 64 + n.val; omega)
  rw [e]
  pointwise

/-- A negated distance. -/
theorem negDist_apply (A : Args) (b : Fin 256) (n m : Fin 64) : negDist A (ix3 b n m)
    = -(((∑ d, cell A b n d * cell A b n d) + ∑ d, cell A b m d * cell A b m d)
        - two * ∑ d, cell A b n d * cell A b m d) := by
  simp only [← xs_apply]
  unfold negDist two xs
  unfold val_main_v53 val_main_v52 val_main_v51 val_main_v49 val_main_v50 val_main_cst_5 val_main_v48
    val_main_v47 val_main_v45 val_main_v46 val_main_v44 val_main_v43 val_main_cst_4 val_main_v42
  pointwise

/-- The hidden layer of one edge, over the object and the differences side by side. -/
theorem hid_apply (A : Args) (b : Fin 256) (n : Fin 64) (k : Fin 8) (j : Fin 128) : hid A (ix4 b n k j)
    = Ideal.div ((∑ i, pair A (ix4 b n k i) * mat A.x15 i j) + vec A.x16 j) (Ideal.sqrt (Ideal.ofBits .f32 0x3F800054#32))
        * vec A.x17 j + vec A.x18 j := by
  unfold hid mat vec
  unfold val_main_v79 val_main_v78 val_main_v77 val_main_v76 val_main_v75 val_main_v74 val_main_v73 val_main_v72
    val_main_v71 val_main_v70 val_main_cst_7 val_main_v69 val_main_v68 val_main_v67 val_main_v66
  rw [show val_main_v65 (F := Ideal) A.x0 A.x1 A.x2 A.x4 A.x5 A.x6 A.x7 A.x8 A.x9 A.x10 A.x11 A.x12 A.x13 A.x14 = pair A from rfl]
  generalize pair A = v
  pointwise
  rfl

/-- The second layer of one edge. -/
theorem edges_apply (A : Args) (b : Fin 256) (n : Fin 64) (k : Fin 8) (j : Fin 128) : edges A (ix4 b n k j)
    = (∑ i, max (hid A (ix4 b n k i)) 0 * mat A.x19 i j) + vec A.x20 j := by
  unfold edges mat vec
  unfold val_main_v85 val_main_v84 val_main_v83 val_main_v82 val_main_v81 val_main_v80 val_main_cst_8
  rw [show val_main_v79 (F := Ideal) A.x0 A.x1 A.x2 A.x4 A.x5 A.x6 A.x7 A.x8 A.x9 A.x10 A.x11 A.x12 A.x13 A.x14 A.x15 A.x16 A.x17 A.x18 = hid A from rfl]
  generalize hid A = v
  pointwise

/-- Two maxima, one after the other, from `-∞`, are the maximum over both. -/
theorem fold_fold_max (f : Fin 64 → Fin 8 → EReal) :
    Finset.univ.fold max (Ideal.ofBits .f32 4286578688#32) (fun x => Finset.univ.fold max (Ideal.ofBits .f32 4286578688#32)
      fun y => f x y) = top fun q : Fin 8 × Fin 64 => f q.2 q.1 := by
  have hb : Ideal.ofBits .f32 4286578688#32 = (⊥ : EReal) := by simp [Ideal.ofBits, Ideal.ieee]
  rw [hb]
  show (Finset.univ.sup fun x => Finset.univ.sup fun y => f x y) = Finset.univ.sup fun q : Fin 8 × Fin 64 => f q.2 q.1
  apply le_antisymm
  · exact Finset.sup_le fun x _ => Finset.sup_le fun y _ =>
      Finset.le_sup (f := fun q : Fin 8 × Fin 64 => f q.2 q.1) (Finset.mem_univ (y, x))
  · exact Finset.sup_le fun q _ => (Finset.le_sup (f := fun y => f q.2 y) (Finset.mem_univ q.1)).trans
      (Finset.le_sup (f := fun x => Finset.univ.sup fun y => f x y) (Finset.mem_univ q.2))

/-- The pooled maximum of one cell, over its objects and their nearest. -/
theorem pooled_apply (A : Args) (b : Fin 256) (j : Fin 128) : pooled A (ix2 b j)
    = top fun q : Fin 8 × Fin 64 => edges A (ix4 b q.2 q.1 j) := by
  rw [← fold_fold_max fun n k => edges A (ix4 b n k j)]
  unfold pooled
  unfold val_main_v87 val_main_cst_10 val_main_v86 val_main_cst_9
  rw [show val_main_v85 (F := Ideal) A.x0 A.x1 A.x2 A.x4 A.x5 A.x6 A.x7 A.x8 A.x9 A.x10 A.x11 A.x12 A.x13 A.x14 A.x15 A.x16 A.x17 A.x18 A.x19 A.x20 = edges A from rfl]
  generalize edges A = v
  pointwise

/-- The first half of an edge's input is the object itself. -/
theorem pair_left (A : Args) (b : Fin 256) (n : Fin 64) (k : Fin 8) (j : Fin 128) :
    pair A (ix4 b n k ⟨j.val, by omega⟩) = cell A b n j := by
  rw [← xs_apply]
  unfold pair xs val_main_v65
  refine Eq.trans (Eq.trans (congrFun (by rfl) _) (concatenate_ofFn_apply (t := S256x64x8x256) (s₁ := S256x64x8x128) 3
    ![_, _] concatenates_S256x64x8x128_S256x64x8x128_S256x64x8x256_d3 rfl 128 rfl (ix4 b n k ⟨j.val, by omega⟩) 0
    (by show j.val / 128 = 0; omega) (ix4 b n k j) (by show j.val = j.val % 128; omega)
    (by intro b hb; fin_cases b <;> first | rfl | exact absurd rfl hb))) ?_
  show val_main_v62 (F := Ideal) _ _ _ _ _ _ _ _ _ _ _ _ _ _ (ix4 b n k j) = _
  unfold val_main_v62 val_main_v61
  pointwise

/-- The second half is the difference to the nearest one. -/
theorem pair_right (A : Args) (b : Fin 256) (n : Fin 64) (k : Fin 8) (j : Fin 128) :
    pair A (ix4 b n k ⟨128 + j.val, by omega⟩) = nbr A (ix4 b n k j) - cell A b n j := by
  rw [← xs_apply]
  unfold pair nbr xs val_main_v65
  refine Eq.trans (Eq.trans (congrFun (by rfl) _) (concatenate_ofFn_apply (t := S256x64x8x256) (s₁ := S256x64x8x128) 3
    ![_, _] concatenates_S256x64x8x128_S256x64x8x128_S256x64x8x256_d3 rfl 128 rfl (ix4 b n k ⟨128 + j.val, by omega⟩) 1
    (by show (128 + j.val) / 128 = 1; omega) (ix4 b n k j) (by show j.val = (128 + j.val) % 128; omega)
    (by intro b hb; fin_cases b <;> first | rfl | exact absurd rfl hb))) ?_
  show val_main_v64 (F := Ideal) _ _ _ _ _ _ _ _ _ _ _ _ _ _ (ix4 b n k j) = _
  unfold val_main_v64 val_main_v63 val_main_v61
  pointwise

/-- The second member of a sort of pairs along the last axis, one entry. -/
theorem sort2_apply (cmp : EReal × BitVec 32 → EReal × BitVec 32 → BitVec 1) (x : S256x64x64.Idx → EReal)
    (y : S256x64x64.Idx → BitVec 32) (b : Fin 256) (n q : Fin 64) :
    (Host.sort2 S256x64x64 2 cmp x y).2 (ix3 b n q) = y (ix3 b n (sortedFrom (fun m m' : Fin 64 =>
      cmp (x (ix3 b n m), y (ix3 b n m)) (x (ix3 b n m'), y (ix3 b n m')) == 1#1) q)) := by
  have al : ∀ m : Fin 64, (ix3 b n q : S256x64x64.Idx).along 2 m = ix3 b n m := fun m => by
    funext a
    match a with
    | ⟨0, _⟩ => rfl
    | ⟨1, _⟩ => rfl
    | ⟨2, _⟩ => rfl
  unfold Host.sort2
  rw [dif_pos (show 2 < S256x64x64.rank by decide)]
  refine congrArg y (Eq.trans (al _) (congrArg (fun r => (ix3 b n (sortedFrom r q) : S256x64x64.Idx)) (funext fun m => funext fun m' => ?_)))
  exact congrArg₂ (fun i j : S256x64x64.Idx => cmp (x i, y i) (x j, y j) == 1#1) (al m) (al m')

/-- The number of a nearest object: the position that the sort of the negated distances puts there. -/
theorem ids_apply (A : Args) (b : Fin 256) (n : Fin 64) (k : Fin 8) :
    ids A (ix3 b n k) = BitVec.ofNat 32 (sortedFrom (fun m m' : Fin 64 =>
      FloatOps.cmpfTotal .gt (negDist A (ix3 b n m)) (negDist A (ix3 b n m')) == 1#1) ⟨k.val, by omega⟩).val := by
  have e : ∀ (x : S256x64x64.Idx → EReal), (Host.topK (s := S256x64x64) S256x64x8 2 (FloatOps.cmpfTotal (F := Ideal) (φ := .f32) .gt) x
      sliceFits_S256x64x64_S256x64x8).2 (ix3 b n k) = BitVec.ofNat 32 (sortedFrom (fun m m' : Fin 64 =>
      FloatOps.cmpfTotal (F := Ideal) (φ := .f32) .gt (x (ix3 b n m)) (x (ix3 b n m')) == 1#1) ⟨k.val, by omega⟩).val := fun x => by
    unfold Host.topK
    show extractStridedSlice S256x64x8 (fun _ => 0) (Host.sort2 S256x64x64 2
      (fun l r => FloatOps.cmpfTotal (F := Ideal) (φ := .f32) .gt l.1 r.1) x
      (fun i => if hd : 2 < S256x64x64.rank then iotaInDim S256x64x64 32 ⟨2, hd⟩ i else 0#32)).2
      sliceFits_S256x64x64_S256x64x8 (ix3 b n k) = _
    refine Eq.trans (b := (Host.sort2 S256x64x64 2 (fun l r => FloatOps.cmpfTotal (F := Ideal) (φ := .f32) .gt l.1 r.1) x
      (fun i => if hd : 2 < S256x64x64.rank then iotaInDim S256x64x64 32 ⟨2, hd⟩ i else 0#32)).2 (ix3 b n ⟨k.val, by omega⟩)) ?_
      ((sort2_apply _ _ _ b n ⟨k.val, by omega⟩).trans ?_)
    · refine congrArg (Host.sort2 S256x64x64 2 _ _ _).2 (funext fun a => ?_)
      match a with
      | ⟨0, _⟩ => exact Fin.ext (Nat.zero_add _)
      | ⟨1, _⟩ => exact Fin.ext (Nat.zero_add _)
      | ⟨2, _⟩ => exact Fin.ext (Nat.zero_add _)
    · rfl
  exact e (negDist A)

/-- The number that the gather is given is the number itself, for one within the cell. -/
theorem shifted_apply (A : Args) (b : Fin 256) (n : Fin 64) (k : Fin 8) (q : Fin 64)
    (h : ids A (ix3 b n k) = BitVec.ofNat 32 q.val) :
    val_main_v59 (F := Ideal) A.x0 A.x1 A.x2 A.x4 A.x5 A.x6 A.x7 A.x8 A.x9 A.x10 A.x11 A.x12 A.x13 A.x14 (ix4 b n k 0) = BitVec.ofNat 32 q.val := by
  unfold val_main_v59 val_main_v58 val_main_v57 val_main_v56 val_main_c_6 val_main_v55 val_main_v54 val_main_c
  rw [show val_main_indices (F := Ideal) A.x0 A.x1 A.x2 A.x4 A.x5 A.x6 A.x7 A.x8 A.x9 A.x10 A.x11 A.x12 A.x13 A.x14 = ids A from rfl]
  generalize ids A = v at h
  pointwise
  rw [h]
  have : ∀ q : Fin 64, Scalar.select (IntOp.cmpi .slt (BitVec.ofNat 32 q.val) 0#32)
      (IntOp.addi (BitVec.ofNat 32 q.val) 64#32) (BitVec.ofNat 32 q.val) = BitVec.ofNat 32 q.val := by decide
  exact this q

/-- The rows that the gather within the cells takes, one entry. -/
theorem takeCell_apply (x : S256x64x128.Idx → EReal) (idx : IVec S256x64x8x1 32) (b : Fin 256) (n : Fin 64) (k : Fin 8)
    (j : Fin 128) (q : Fin 64) (h : min (idx (ix4 b n k 0)).toInt.toNat 63 = q.val) :
    Host.gather gather_S256x64x128_S256x64x8x1_S256x64x8x128_3_1_0_0_1_3_11128 x idx (ix4 b n k j) = x (ix3 b q j) := by
  have e : ∀ r, gather_S256x64x128_S256x64x8x1_S256x64x8x128_3_1_0_0_1_3_11128.siIdx (ix4 b n k j) r = ix4 b n k 0 := fun r => by
    have hr : r = ⟨0, Nat.one_pos⟩ := Fin.ext (Nat.lt_one_iff.mp r.isLt)
    subst hr
    funext a
    match a with
    | ⟨0, _⟩ => rfl
    | ⟨1, _⟩ => rfl
    | ⟨2, _⟩ => rfl
    | ⟨3, _⟩ => rfl
  refine congrArg x (funext fun a => ?_)
  match a with
  | ⟨0, _⟩ => exact Fin.ext (Eq.trans (by rfl) (Nat.zero_add b.val))
  | ⟨1, _⟩ =>
    refine Fin.ext (Eq.trans ?_ h)
    rw [← e ⟨0, Nat.one_pos⟩]
    rfl
  | ⟨2, _⟩ => exact Fin.ext (Eq.trans (by rfl) (Nat.zero_add j.val))

/-- The embedding of a nearest object. -/
theorem nbr_apply (A : Args) (b : Fin 256) (n : Fin 64) (k : Fin 8) (j : Fin 128) (q : Fin 64)
    (h : ids A (ix3 b n k) = BitVec.ofNat 32 q.val) : nbr A (ix4 b n k j) = cell A b q j := by
  rw [← xs_apply]
  refine takeCell_apply (xs A) _ b n k j q ?_
  rw [shifted_apply A b n k q h]
  have : ∀ q : Fin 64, min (BitVec.ofNat 32 q.val).toInt.toNat 63 = q.val := by decide
  exact this q

end Cert.ReferenceIdeal.Own
end
-- ==== Proof.RefLast.lean ====
/- The reference's last two layers and its output rows, read at an index. -/
module

public import proofs.«01_k».proof.Proof.RefRead
public import Idealize.ShloMosaic.Lib.Pointwise
public import Idealize.ShloMosaic.Lib.ValueIdx
public import Idealize.ShloMosaic.Lib.Pipeline.Value

@[expose] public section

set_option maxRecDepth 16384

noncomputable section

namespace Cert.ReferenceIdeal.Own

open Cert.ReferenceIdeal Cert.ReferenceIdeal.Gen Cert.ReferenceIdeal.Read Cert.Own
open Idealize.ShloMosaic

/-- A product with one of the last layers' weights, one entry. -/
theorem lastDot_apply (v : FVec Ideal S256x128 .f32) (w : FVec Ideal S128x128 .f32) (b : Fin 256) (i : Fin 128) :
    Host.dotGeneral dot_S256x128_S128x128_S256x128_1_0_0_1_n_n none v w (ix2 b i) = (∑ l, v (ix2 b l) * w (ix2 l i)) := by
  pointwise

/-- A bias, repeated over the cells, one entry. -/
theorem lastBias_apply (c : FVec Ideal S128 .f32) (b : Fin 256) (i : Fin 128) :
    (broadcastInDim S256x128 ![0, 1] bcast_S1x128_S256x128_0_1 (broadcastInDim S1x128 ![1] bcast_S128_S1x128_1 c)) (ix2 b i)
      = c (ix1 i) := by
  pointwise

/-- The zero that the positive part compares with, one entry. -/
theorem lastZero_apply (b : Fin 256) (i : Fin 128) : (broadcastInDim S256x128 ![] bcast_S_S256x128
    (constant (F := Ideal) S_ FTy.f32 0#32) (ix2 b i) : EReal) = 0 := by
  pointwise

/-- The last layers of one cell. -/
theorem lastRow_apply (A : Args) (b : Fin 256) (j : Fin 128) : lastRow A (ix2 b j)
    = mlp (mat A.x21) (vec A.x22) (mat A.x23) (vec A.x24) (fun i => pooled A (ix2 b i)) j := by
  unfold lastRow mlp dense mat vec
  unfold val_main_v97 val_main_v96 val_main_v95 val_main_v94 val_main_v93 val_main_v92 val_main_cst_11
    val_main_v91 val_main_v90 val_main_v89 val_main_v88
  rw [show val_main_v87 (F := Ideal) A.x0 A.x1 A.x2 A.x4 A.x5 A.x6 A.x7 A.x8 A.x9 A.x10 A.x11 A.x12 A.x13 A.x14 A.x15 A.x16 A.x17 A.x18 A.x19 A.x20 = pooled A from rfl]
  generalize pooled A = v
  refine congrArg₂ (fun x y : EReal => x + y) ((lastDot_apply _ A.x23 b j).trans (Finset.sum_congr rfl fun i _ =>
    congrArg (fun x : EReal => x * A.x23 (ix2 i j)) ?_)) (lastBias_apply A.x24 b j)
  exact congrArg₂ (fun x y : EReal => max x y) (congrArg₂ (fun x y : EReal => x + y) (lastDot_apply v A.x21 b i)
    (lastBias_apply A.x22 b i)) (lastZero_apply b i)

/-- The squared length of a row of the last layer, one entry. -/
theorem lastSquare_apply (v : FVec Ideal S256x128 .f32) (b : Fin 256) :
    (Host.reduceAdd (mulf v v) (constant S_ .f32 0x00000000#32) reducesTo_S256x128_S256_d1 h_S_ (ix1 b) : EReal)
      = ∑ e, v (ix2 b e) * v (ix2 b e) := by
  pointwise

/-- A column of the last layer, repeated over the row, one entry. -/
theorem lastColumn_apply (v : FVec Ideal S256x1 .f32) (b : Fin 256) (j : Fin 128) :
    broadcastInDim S256x128 ![0, 1] bcast_S256x1_S256x128_0_1 v (ix2 b j) = v (ix2 b 0) := by
  pointwise

/-- A vector of the cells as a column, one entry. -/
theorem lastVector_apply (v : FVec Ideal S256 .f32) (b : Fin 256) :
    broadcastInDim S256x1 ![0] bcast_S256_S256x1_0 v (ix2 b 0) = v (ix1 b) := by
  pointwise

/-- The lower bound of the length, one entry. -/
theorem lastTiny_apply (b : Fin 256) : (broadcastInDim S256x1 ![] bcast_S_S256x1 (constant (F := Ideal) S_ .f32 0x2B8CBCCC#32) (ix2 b 0) : EReal)
    = tiny := by
  unfold tiny
  pointwise

/-- The result row of one cell. -/
theorem res_apply (A : Args) (b : Fin 256) (j : Fin 128) : res A (ix2 b j) = unitRow (fun i => lastRow A (ix2 b i)) j := by
  unfold res unitRow len
  unfold val_main_v102 val_main_v101 val_main_v100 val_main_v99 val_main_cst_12 val_main_v98 val_main_call4_v2
    val_main_call4_v1 val_main_call4_cst val_main_call4_v0
  rw [show val_main_v97 (F := Ideal) A.x0 A.x1 A.x2 A.x4 A.x5 A.x6 A.x7 A.x8 A.x9 A.x10 A.x11 A.x12 A.x13 A.x14 A.x15 A.x16 A.x17 A.x18 A.x19 A.x20 A.x21 A.x22 A.x23 A.x24 = lastRow A from rfl]
  generalize lastRow A = v
  refine congrArg (Ideal.div (v (ix2 b j))) ((lastColumn_apply _ b j).trans ?_)
  exact congrArg₂ (fun x y : EReal => max x y) (congrArg Ideal.sqrt ((lastVector_apply _ b).trans (lastSquare_apply v b)))
    (lastTiny_apply b)

end Cert.ReferenceIdeal.Own

end
-- ==== Proof.RefCell.lean ====
/- The reference's edges and pooled maximum are the ones of the plain description, for embeddings that are real. -/
module

public import proofs.«01_k».proof.Proof.RefLast
public import proofs.«01_k».proof.Proof.Finite

@[expose] public section

set_option maxRecDepth 16384

noncomputable section

namespace Cert.ReferenceIdeal.Own

open Cert.ReferenceIdeal Cert.ReferenceIdeal.Gen Cert.ReferenceIdeal.Read Cert.Own
open Idealize.ShloMosaic

/-- The embedding of one object, from its class's row of the table, its colour and its position. -/
theorem cell_embed (A : Args) (b : Fin 256) (n : Fin 64) (d : Fin 128) (h₀ : 0 ≤ (A.x0 (ix1 (obj b n))).toInt)
    (h₁ : (A.x0 (ix1 (obj b n))).toInt < 33) :
    cell A b n d = embed (mat A.x13) (vec A.x14)
      (fun i => A.x4 (ix2 ⟨(A.x0 (ix1 (obj b n))).toInt.toNat, by omega⟩ i))
      (mlp (mat A.x9) (vec A.x10) (mat A.x11) (vec A.x12) fun i => A.x1 (ix2 (obj b n) i))
      (mlp (mat A.x5) (vec A.x6) (mat A.x7) (vec A.x8) fun i => A.x2 (ix2 (obj b n) i)) d := by
  unfold cell embed
  rw [emb_apply]
  congr 1
  funext i
  rw [side_apply]
  simp only [clsRow_apply A _ _ h₀ h₁, colRow_apply, posRow_apply]

/-- Embeddings are real. -/
theorem cell_real (A : Args) (hw : ∀ i j, IsReal (mat A.x13 i j)) (hb : ∀ j, IsReal (vec A.x14 j)) (b : Fin 256) (n : Fin 64)
    (d : Fin 128) : IsReal (cell A b n d) := by
  unfold cell
  rw [emb_apply]
  refine IsReal.add (IsReal.sum _ fun i => IsReal.mul ?_ (hw i d)) (hb d)
  exact Eq.subst (motive := IsReal) (side_apply A (obj b n) i).symm (cat3_unit_real _ _ _ i)

/-- Of two negated numbers, the first is greater if it was smaller. -/
theorem greater_neg (x y : EReal) : (FloatOps.cmpfTotal (F := Ideal) (φ := .f32) .gt (-x) (-y) == 1#1) = decide (x < y) := by
  show (BitVec.ofBool (decide (-y < -x)) == 1#1) = _
  rw [decide_eq_decide.mpr (EReal.neg_lt_neg_iff (a := y) (b := x))]
  cases decide (x < y) <;> rfl

/-- The number of the object that round `k` chooses. -/
theorem ids_chosen (A : Args) (b : Fin 256) (hr : ∀ n d, IsReal (cell A b n d)) (n : Fin 64) (k : Fin 8) :
    ids A (ix3 b n k) = BitVec.ofNat 32 (chosen (cell A b) n k).val := by
  rw [ids_apply, ← nearest_whole (cell A b) hr n k]
  refine congrArg (fun q : Fin 64 => BitVec.ofNat 32 q.val) (Rounds.sortedFrom_eq_nearest (fun m : Fin 64 =>
    ((∑ d, cell A b n d * cell A b n d) + ∑ d, cell A b m d * cell A b m d) - two * ∑ d, cell A b n d * cell A b m d)
    (fun m => ?_) _ (fun m m' => ?_) k.val (by omega))
  · exact whole_lt_top (cell A b) hr n m
  · exact (congrArg₂ (fun x y : EReal => FloatOps.cmpfTotal (F := Ideal) (φ := .f32) .gt x y == 1#1) (negDist_apply A b n m)
      (negDist_apply A b n m')).trans (greater_neg _ _)

/-- The hidden layer of an edge. -/
theorem hid_hidden (A : Args) (b : Fin 256) (hr : ∀ n d, IsReal (cell A b n d)) (n : Fin 64) (k : Fin 8) (j : Fin 128) :
    hid A (ix4 b n k j) = Cert.Own.hidden (fun i j => mat A.x15 ⟨i.val, by omega⟩ j) (fun i j => mat A.x15 ⟨128 + i.val, by omega⟩ j)
      (vec A.x16) (fun j => Ideal.div (vec A.x17 j) (Ideal.sqrt (Ideal.ofBits .f32 0x3F800054#32))) (vec A.x18) (cell A b) n k j := by
  rw [hid_apply, scale_div]
  unfold Cert.Own.hidden dense
  refine congrArg₂ (fun x y : EReal => x + y) (congrArg₂ (fun x y : EReal => x * y) ?_ rfl) rfl
  have e : (∑ i, pair A (ix4 b n k i) * mat A.x15 i j) = (∑ i : Fin 128, cell A b n i * mat A.x15 ⟨i.val, by omega⟩ j)
      + ∑ i : Fin 128, (cell A b (chosen (cell A b) n k) i - cell A b n i) * mat A.x15 ⟨128 + i.val, by omega⟩ j := by
    refine (Fin.sum_univ_add (a := 128) (b := 128) fun i => pair A (ix4 b n k i) * mat A.x15 i j).trans ?_
    refine congrArg₂ (fun x y : EReal => x + y) (Finset.sum_congr rfl fun i _ => ?_) (Finset.sum_congr rfl fun i _ => ?_)
    · exact congrArg (fun x : EReal => x * mat A.x15 ⟨i.val, by omega⟩ j) (pair_left A b n k i)
    · refine congrArg (fun x : EReal => x * mat A.x15 ⟨128 + i.val, by omega⟩ j) ((pair_right A b n k i).trans ?_)
      rw [nbr_apply A b n k i _ (ids_chosen A b hr n k)]
  rw [e, add_right_comm]

/-- The second layer of an edge. -/
theorem edges_edge (A : Args) (b : Fin 256) (hr : ∀ n d, IsReal (cell A b n d)) (n : Fin 64) (k : Fin 8) (j : Fin 128) :
    edges A (ix4 b n k j) = edge (fun i j => mat A.x15 ⟨i.val, by omega⟩ j) (fun i j => mat A.x15 ⟨128 + i.val, by omega⟩ j)
      (vec A.x16) (fun j => Ideal.div (vec A.x17 j) (Ideal.sqrt (Ideal.ofBits .f32 0x3F800054#32))) (vec A.x18) (mat A.x19)
      (cell A b) n k j + vec A.x20 j := by
  rw [edges_apply]
  unfold edge
  simp only [hid_hidden A b hr]

/-- The pooled maximum: the bias of the second layer may be added after it. -/
theorem pooled_top (A : Args) (b : Fin 256) (hr : ∀ n d, IsReal (cell A b n d)) (j : Fin 128) :
    pooled A (ix2 b j) = top (fun q : Fin 8 × Fin 64 => edge (fun i j => mat A.x15 ⟨i.val, by omega⟩ j)
      (fun i j => mat A.x15 ⟨128 + i.val, by omega⟩ j) (vec A.x16)
      (fun j => Ideal.div (vec A.x17 j) (Ideal.sqrt (Ideal.ofBits .f32 0x3F800054#32))) (vec A.x18) (mat A.x19)
      (cell A b) q.2 q.1 j) + vec A.x20 j := by
  rw [pooled_apply, ← Cert.Own.top_add]
  simp only [edges_edge A b hr]

/-- The reference's result, cell by cell. -/
theorem res_cell (A : Args) (b : Fin 256) (hr : ∀ n d, IsReal (cell A b n d)) (j : Fin 128) :
    res A (ix2 b j) = cellOut (fun i j => mat A.x15 ⟨i.val, by omega⟩ j) (fun i j => mat A.x15 ⟨128 + i.val, by omega⟩ j)
      (vec A.x16) (fun j => Ideal.div (vec A.x17 j) (Ideal.sqrt (Ideal.ofBits .f32 0x3F800054#32))) (vec A.x18) (mat A.x19)
      (vec A.x20) (mat A.x21) (vec A.x22) (mat A.x23) (vec A.x24) (cell A b) j := by
  rw [res_apply]
  unfold cellOut
  refine congrArg (fun f => unitRow f j) (funext fun i => (lastRow_apply A b i).trans ?_)
  exact congrArg (fun f => mlp (mat A.x21) (vec A.x22) (mat A.x23) (vec A.x24) f i) (funext fun i => pooled_top A b hr i)

end Cert.ReferenceIdeal.Own

end
-- ==== Proof.BlockReads.lean ====
/- The blocks that one grid point of the kernel works on, in terms of the argument arrays, and the embeddings over them. -/
module

public import proofs.«01_k».proof.Proof.Host
public import proofs.«01_k».proof.Proof.BlockValue
public import proofs.«01_k».proof.Proof.RefCell

@[expose] public section

set_option maxRecDepth 16384

noncomputable section

namespace Cert.KernelIdeal.Own

open Cert.KernelIdeal Cert.KernelIdeal.Gen Cert.Own
open Cert.ReferenceIdeal.Own (Args mat vec obj cell)
open Idealize.ShloMosaic Idealize.ShloMosaic.TcCoe Idealize.SL.Sem

variable (m : (ℓ : Loc nD τ sig) → Buf (Elt Ideal) ℓ)

/-- The blocks of grid point `t`: three windows move along the objects, the others hold whole arrays. -/
def blocks (c : Dev nD) (t : Fin cfg0.N) : Blocks Ideal :=
  ⟨iblk m c 0 t, iblk m c 1 t, iblk m c 2 t, V m c main_v3, V m c main_v4, V m c main_v9, V m c main_arg11, V m c main_v10, V m c main_v5, V m c main_v11, V m c main_arg7, V m c main_v12, V m c main_v13, V m c main_v14, V m c main_v16, V m c main_v18, V m c main_v19, V m c main_v20, V m c main_v21, V m c main_v22, V m c main_v23, V m c main_arg21, V m c main_v24, V m c main_arg23, V m c main_v25⟩

/-- A window that does not move holds its array's entry in place. -/
theorem stays (w : Pipeline.Window sig grid0) (t : Fin grid0.N) (h : ∀ a, w.kind.off (w.index t a) (w.size a) = 0)
    (y : (w.xblock (grid0.coords t)).Idx) (a : Fin w.shape.rank) : ((w.rect t).emb y a : Nat) = y a :=
  (w.rect_emb_val_off t y a).trans (by rw [h a, Nat.zero_add])

/-- A rereading of an array at its own indices is the array. -/
theorem in_place {s : Shape} {α : Type} (f : s.Idx → α) (g : s.Idx → s.Idx) (h : ∀ y a, (g y a).val = (y a).val) :
    (fun y => f (g y)) = f :=
  funext fun y => congrArg f (funext fun a => Fin.ext (h y a))

set_option maxHeartbeats 4000000 in
/-- What the windows hold at grid point `t` are those blocks. -/
theorem blocks_eq (c : Dev nD) (t : Fin cfg0.N) : (⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t, iblk m c 22 t, iblk m c 23 t, iblk m c 24 t⟩ : Blocks Ideal) = blocks m c t := by
  have z : ∀ n : Nat, 0 * n = 0 := Nat.zero_mul
  unfold blocks
  rw [Blocks.mk.injEq]
  exact ⟨rfl, rfl, rfl,
    in_place (V m c main_v3) (win0_3.rect t).emb (stays win0_3 t (Fin.forall_fin_two.mpr ⟨z _, z _⟩)),
    in_place (V m c main_v4) (win0_4.rect t).emb (stays win0_4 t (Fin.forall_fin_two.mpr ⟨z _, z _⟩)),
    in_place (V m c main_v9) (win0_5.rect t).emb (stays win0_5 t (Fin.forall_fin_two.mpr ⟨z _, z _⟩)),
    in_place (V m c main_arg11) (win0_6.rect t).emb (stays win0_6 t (Fin.forall_fin_two.mpr ⟨z _, z _⟩)),
    in_place (V m c main_v10) (win0_7.rect t).emb (stays win0_7 t (Fin.forall_fin_two.mpr ⟨z _, z _⟩)),
    in_place (V m c main_v5) (win0_8.rect t).emb (stays win0_8 t (Fin.forall_fin_two.mpr ⟨z _, z _⟩)),
    in_place (V m c main_v11) (win0_9.rect t).emb (stays win0_9 t (Fin.forall_fin_two.mpr ⟨z _, z _⟩)),
    in_place (V m c main_arg7) (win0_10.rect t).emb (stays win0_10 t (Fin.forall_fin_two.mpr ⟨z _, z _⟩)),
    in_place (V m c main_v12) (win0_11.rect t).emb (stays win0_11 t (Fin.forall_fin_two.mpr ⟨z _, z _⟩)),
    in_place (V m c main_v13) (win0_12.rect t).emb (stays win0_12 t (Fin.forall_fin_two.mpr ⟨z _, z _⟩)),
    in_place (V m c main_v14) (win0_13.rect t).emb (stays win0_13 t (Fin.forall_fin_two.mpr ⟨z _, z _⟩)),
    in_place (V m c main_v16) (win0_14.rect t).emb (stays win0_14 t (Fin.forall_fin_two.mpr ⟨z _, z _⟩)),
    in_place (V m c main_v18) (win0_15.rect t).emb (stays win0_15 t (Fin.forall_fin_two.mpr ⟨z _, z _⟩)),
    in_place (V m c main_v19) (win0_16.rect t).emb (stays win0_16 t (Fin.forall_fin_two.mpr ⟨z _, z _⟩)),
    in_place (V m c main_v20) (win0_17.rect t).emb (stays win0_17 t (Fin.forall_fin_two.mpr ⟨z _, z _⟩)),
    in_place (V m c main_v21) (win0_18.rect t).emb (stays win0_18 t (Fin.forall_fin_two.mpr ⟨z _, z _⟩)),
    in_place (V m c main_v22) (win0_19.rect t).emb (stays win0_19 t (Fin.forall_fin_two.mpr ⟨z _, z _⟩)),
    in_place (V m c main_v23) (win0_20.rect t).emb (stays win0_20 t (Fin.forall_fin_two.mpr ⟨z _, z _⟩)),
    in_place (V m c main_arg21) (win0_21.rect t).emb (stays win0_21 t (Fin.forall_fin_two.mpr ⟨z _, z _⟩)),
    in_place (V m c main_v24) (win0_22.rect t).emb (stays win0_22 t (Fin.forall_fin_two.mpr ⟨z _, z _⟩)),
    in_place (V m c main_arg23) (win0_23.rect t).emb (stays win0_23 t (Fin.forall_fin_two.mpr ⟨z _, z _⟩)),
    in_place (V m c main_v25) (win0_24.rect t).emb (stays win0_24 t (Fin.forall_fin_two.mpr ⟨z _, z _⟩))⟩

/-- The moving windows move with the grid point. -/
theorem moves : ∀ t : Fin grid0.N, win0_0.index t 0 = t.val ∧ win0_1.index t 0 = t.val ∧ win0_2.index t 0 = t.val := by
  decide +kernel

/-- Object `p` of grid point `t`. -/
def at1 (t : Fin cfg0.N) (p : Fin 1024) : Fin 16384 := ⟨t.val * 1024 + p.val, by have : t.val < 16 := t.isLt; omega⟩

/-- The colours' rows, one entry. -/
theorem iblk0 (c : Dev nD) (t : Fin cfg0.N) (p : Fin 1024) (j : Fin 8) : (iblk (F := Ideal) m c 0 t : S1024x8.Idx → EReal) (ix2 p j)
    = (V (F := Ideal) m c main_v0 : S16384x8.Idx → EReal) (ix2 (at1 t p) j) := by
  refine congrArg (V (F := Ideal) m c main_v0 : S16384x8.Idx → EReal) (funext fun a => Fin.ext ?_)
  refine (Pipeline.Window.rect_emb_val_off win0_0 t (ix2 p j) a).trans ?_
  match a with
  | ⟨0, _⟩ => exact congrArg (fun x => x * 1024 + p.val) (moves t).1
  | ⟨1, _⟩ => exact Nat.zero_add _

/-- The positions' rows, one entry. -/
theorem iblk1 (c : Dev nD) (t : Fin cfg0.N) (p : Fin 1024) (j : Fin 8) : (iblk (F := Ideal) m c 1 t : S1024x8.Idx → EReal) (ix2 p j)
    = (V (F := Ideal) m c main_v1 : S16384x8.Idx → EReal) (ix2 (at1 t p) j) := by
  refine congrArg (V (F := Ideal) m c main_v1 : S16384x8.Idx → EReal) (funext fun a => Fin.ext ?_)
  refine (Pipeline.Window.rect_emb_val_off win0_1 t (ix2 p j) a).trans ?_
  match a with
  | ⟨0, _⟩ => exact congrArg (fun x => x * 1024 + p.val) (moves t).2.1
  | ⟨1, _⟩ => exact Nat.zero_add _

/-- The classes, one entry. -/
theorem iblk2 (c : Dev nD) (t : Fin cfg0.N) (p : Fin 1024) : (iblk (F := Ideal) m c 2 t : S1x1x1024.Idx → BitVec 32) (ix3 0 0 p)
    = (m ((c : Thread nD τ).loc main_arg0) : S16384.Idx → BitVec 32) (ix1 (at1 t p)) := by
  refine Eq.trans (congrArg (V (F := Ideal) m c main_v2 : S16x1x1024.Idx → BitVec 32) (funext fun a => Fin.ext ?_)) (V_v2 m c t p)
  refine (Pipeline.Window.rect_emb_val_off win0_2 t (ix3 0 0 p) a).trans ?_
  match a with
  | ⟨0, _⟩ => exact congrArg (fun x => x * 1 + 0) (moves t).2.2 |>.trans (Nat.mul_one _)
  | ⟨1, _⟩ => rfl
  | ⟨2, _⟩ => exact Nat.zero_add _

/-- The arguments, as the reference's arithmetic takes them. -/
def args (c : Dev nD) : Args :=
  ⟨m ((c : Thread nD τ).loc main_arg0), m ((c : Thread nD τ).loc main_arg1), m ((c : Thread nD τ).loc main_arg2), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20), m ((c : Thread nD τ).loc main_arg21), m ((c : Thread nD τ).loc main_arg22), m ((c : Thread nD τ).loc main_arg23), m ((c : Thread nD τ).loc main_arg24)⟩

/-- A product with the row of zeros and one one that marks a class of the table picks that class's entry. -/
theorem one_hot (w : BitVec 32) (h₀ : 0 ≤ w.toInt) (h₁ : w.toInt < 33) (f : Fin 64 → EReal) :
    (∑ x : Fin 64, (if IntOp.cmpi .eq w (BitVec.ofNat 32 x.val) = 1#1 then (1 : EReal) else 0) * f x)
      = f ⟨w.toInt.toNat, by omega⟩ := by
  have hw : w = BitVec.ofNat 32 w.toInt.toNat := by
    rw [BitVec.toInt_eq_toNat_cond] at h₀ h₁ ⊢
    apply BitVec.eq_of_toNat_eq
    have := w.isLt
    split at h₀ <;> rename_i h
    · rw [if_pos h, Int.toNat_natCast, BitVec.toNat_ofNat, Nat.mod_eq_of_lt (by omega)]
    · omega
  have e : ∀ x : Fin 64, (IntOp.cmpi .eq w (BitVec.ofNat 32 x.val) = 1#1) ↔ (⟨w.toInt.toNat, by omega⟩ : Fin 64) = x := fun x => by
    rw [Fin.ext_iff]
    exact Eq.mp (congrArg (fun v => IntOp.cmpi .eq v (BitVec.ofNat 32 x.val) = 1#1 ↔ w.toInt.toNat = x.val) hw.symm)
      (cmpi_ofNat w.toInt.toNat x.val (by omega) (by omega))
  simp only [e, ite_mul, one_mul, zero_mul, Finset.sum_ite_eq, Finset.mem_univ, if_true]

/-- Three products and five zeros. -/
theorem padded (x w : Fin 3 → EReal) : (∑ i : Fin 8, (if h : i.val < 3 then x ⟨i.val, h⟩ else 0) * (if h : i.val < 3 then w ⟨i.val, h⟩ else 0))
    = ∑ i, x i * w i := by
  rw [Fin.sum_univ_eight, Fin.sum_univ_three]
  simp

/-- The layers of a padded row are those of the row. -/
theorem mlp_padded (w₈ : Fin 8 → Fin 64 → EReal) (x₈ : Fin 8 → EReal) (w : Fin 3 → Fin 64 → EReal) (x : Fin 3 → EReal)
    (b : Fin 64 → EReal) (w₂ : Fin 64 → Fin 128 → EReal) (b₂ : Fin 128 → EReal)
    (hw : ∀ i j, w₈ i j = if h : i.val < 3 then w ⟨i.val, h⟩ j else 0)
    (hx : ∀ i, x₈ i = if h : i.val < 3 then x ⟨i.val, h⟩ else 0) : mlp w₈ b w₂ b₂ x₈ = mlp w b w₂ b₂ x := by
  have e : dense w₈ b x₈ = dense w b x := funext fun j => by
    unfold dense
    simp only [hw, hx]
    rw [padded x fun i => w i j]
  unfold mlp
  rw [e]

end Cert.KernelIdeal.Own

end
-- ==== Proof.KernelValue.lean ====
/- The kernel's result array is the reference's arithmetic of the same arguments. -/
module

public import proofs.«01_k».proof.Proof.BlockReads

@[expose] public section

set_option maxRecDepth 16384

noncomputable section

namespace Cert.KernelIdeal.Own

open Cert.KernelIdeal Cert.KernelIdeal.Gen Cert.Own
open Cert.ReferenceIdeal.Own (Args mat vec obj cell res cell_embed cell_real res_cell)
open Idealize.ShloMosaic Idealize.ShloMosaic.TcCoe Idealize.SL.Sem

variable (m : (ℓ : Loc nD τ sig) → Buf (Elt Ideal) ℓ)

/-- Cell `q` of grid point `t`, among all cells. -/
def gc (t : Fin cfg0.N) (q : Fin 16) : Fin 256 := ⟨16 * t.val + q.val, by have : t.val < 16 := t.isLt; omega⟩

/-- An object's place among all objects, by grid point or by cell. -/
theorem at1_obj (t : Fin cfg0.N) (q : Fin 16) (n : Fin 64) : at1 t (pt q n) = obj (gc t q) n :=
  Fin.ext (by show t.val * 1024 + (64 * q.val + n.val) = 64 * (16 * t.val + q.val) + n.val; omega)

/-- The class embedding of an object is its class's row of the table, divided by its length. -/
theorem class_block (c : Dev nD) (t : Fin cfg0.N) (p : Fin 1024) (h₀ : 0 ≤ ((args m c).x0 (ix1 (at1 t p))).toInt)
    (h₁ : ((args m c).x0 (ix1 (at1 t p))).toInt < 33) :
    (fun j => k0_pay2 (F := Ideal) (blocks m c t).x3 (blocks m c t).x2 (ix2 p j))
      = unitRow fun i => (args m c).x4 (ix2 ⟨((args m c).x0 (ix1 (at1 t p))).toInt.toNat, by omega⟩ i) := by
  funext j
  refine (pay2_apply (blocks m c t).x3 (blocks m c t).x2 p j).trans ?_
  rw [show (blocks m c t).x2 (ix3 0 0 p) = (args m c).x0 (ix1 (at1 t p)) from iblk2 m c t p, one_hot _ h₀ h₁]
  refine congrArg (fun f => unitRow f j) (funext fun i => (V_v3 m c _ i).trans ?_)
  rw [dif_pos (show ((args m c).x0 (ix1 (at1 t p))).toInt.toNat < 33 by omega)]
  rfl

/-- A matrix that its window takes as it is. -/
theorem V_a7 (c : Dev nD) (i : Fin 64) (j : Fin 128) :
    (V (F := Ideal) m c main_arg7 : S64x128.Idx → EReal) (ix2 i j) = (m ((c : Thread nD τ).loc main_arg7) : S64x128.Idx → EReal) (ix2 i j) := by
  rw [V_kept m c main_arg7 (by decide)]

/-- A matrix that its window takes as it is. -/
theorem V_a11 (c : Dev nD) (i : Fin 64) (j : Fin 128) :
    (V (F := Ideal) m c main_arg11 : S64x128.Idx → EReal) (ix2 i j) = (m ((c : Thread nD τ).loc main_arg11) : S64x128.Idx → EReal) (ix2 i j) := by
  rw [V_kept m c main_arg11 (by decide)]

/-- A matrix that its window takes as it is. -/
theorem V_a21 (c : Dev nD) (i j : Fin 128) :
    (V (F := Ideal) m c main_arg21 : S128x128.Idx → EReal) (ix2 i j) = (m ((c : Thread nD τ).loc main_arg21) : S128x128.Idx → EReal) (ix2 i j) := by
  rw [V_kept m c main_arg21 (by decide)]

/-- A matrix that its window takes as it is. -/
theorem V_a23 (c : Dev nD) (i j : Fin 128) :
    (V (F := Ideal) m c main_arg23 : S128x128.Idx → EReal) (ix2 i j) = (m ((c : Thread nD τ).loc main_arg23) : S128x128.Idx → EReal) (ix2 i j) := by
  rw [V_kept m c main_arg23 (by decide)]

/-- The colour layers of an object. -/
theorem colour_block (c : Dev nD) (t : Fin cfg0.N) (p : Fin 1024) :
    mlp (fun i j => (blocks m c t).x4 (ix2 i j)) (fun j => (blocks m c t).x5 (ix2 0 j)) (fun i j => (blocks m c t).x6 (ix2 i j))
        (fun j => (blocks m c t).x7 (ix2 0 j)) (fun i => (blocks m c t).x0 (ix2 p i))
      = mlp (mat (args m c).x9) (vec (args m c).x10) (mat (args m c).x11) (vec (args m c).x12) fun i => (args m c).x1 (ix2 (at1 t p) i) := by
  rw [show (fun j => (blocks m c t).x5 (ix2 0 j)) = vec (args m c).x10 from funext (V_v9 m c),
    show (fun i j => (blocks m c t).x6 (ix2 i j)) = mat (args m c).x11 from
      funext fun i => funext fun j => V_a11 m c i j,
    show (fun j => (blocks m c t).x7 (ix2 0 j)) = vec (args m c).x12 from funext (V_v10 m c)]
  exact mlp_padded _ _ _ _ _ _ _ (V_v4 m c) fun i => (iblk0 m c t p i).trans (V_v0 m c _ i)

/-- The position layers of an object. -/
theorem position_block (c : Dev nD) (t : Fin cfg0.N) (p : Fin 1024) :
    mlp (fun i j => (blocks m c t).x8 (ix2 i j)) (fun j => (blocks m c t).x9 (ix2 0 j)) (fun i j => (blocks m c t).x10 (ix2 i j))
        (fun j => (blocks m c t).x11 (ix2 0 j)) (fun i => (blocks m c t).x1 (ix2 p i))
      = mlp (mat (args m c).x5) (vec (args m c).x6) (mat (args m c).x7) (vec (args m c).x8) fun i => (args m c).x2 (ix2 (at1 t p) i) := by
  rw [show (fun j => (blocks m c t).x9 (ix2 0 j)) = vec (args m c).x6 from funext (V_v11 m c),
    show (fun i j => (blocks m c t).x10 (ix2 i j)) = mat (args m c).x7 from
      funext fun i => funext fun j => V_a7 m c i j,
    show (fun j => (blocks m c t).x11 (ix2 0 j)) = vec (args m c).x8 from funext (V_v12 m c)]
  exact mlp_padded _ _ _ _ _ _ _ (V_v5 m c) fun i => (iblk1 m c t p i).trans (V_v1 m c _ i)

set_option maxHeartbeats 4000000 in
/-- The embedding of an object, in the kernel and in the reference. -/
theorem val121_cell (c : Dev nD) (hc : ∀ p, 0 ≤ ((args m c).x0 (ix1 p)).toInt ∧ ((args m c).x0 (ix1 p)).toInt < 33)
    (t : Fin cfg0.N) (q : Fin 16) (n : Fin 64) (d : Fin 128) :
    (val121 (blocks m c t) (ix2 (pt q n) d) : EReal) = cell (args m c) (gc t q) n d := by
  rw [cell_embed (args m c) (gc t q) n d (hc _).1 (hc _).2]
  refine (val121_apply (blocks m c t) (pt q n) d).trans ?_
  rw [class_block m c t (pt q n) (hc _).1 (hc _).2, colour_block, position_block,
    show (fun i d => (blocks m c t).x12 (ix2 i d)) = mat (args m c).x13 from funext fun i => funext fun j => V_v13 m c i j,
    show (fun d => (blocks m c t).x13 (ix2 0 d)) = vec (args m c).x14 from funext (V_v14 m c)]
  unfold embed
  simp only [at1_obj]

set_option maxHeartbeats 4000000 in
/-- One entry of the stored block is the reference's entry of that cell. -/
theorem out_res (c : Dev nD) (hc : ∀ p, 0 ≤ ((args m c).x0 (ix1 p)).toInt ∧ ((args m c).x0 (ix1 p)).toInt < 33)
    (hw : ∀ i j, IsReal (mat (args m c).x13 i j)) (hb : ∀ j, IsReal (vec (args m c).x14 j))
    (t : Fin cfg0.N) (q : Fin 16) (j : Fin 128) :
    (out0_25 (blocks m c t) (ix2 q j) : EReal) = res (args m c) (ix2 (gc t q) j) := by
  have hE : ∀ p d, IsReal (val121 (blocks m c t) (ix2 p d)) := fun p d => by
    have e : p = pt ⟨p.val / 64, by omega⟩ ⟨p.val % 64, by omega⟩ :=
      Fin.ext (by show p.val = 64 * (p.val / 64) + p.val % 64; omega)
    rw [e]
    exact Eq.subst (motive := IsReal) (val121_cell m c hc t _ _ d).symm (cell_real (args m c) hw hb _ _ d)
  refine (out_apply (blocks m c t) hE q j).trans ?_
  rw [res_cell (args m c) (gc t q) (cell_real (args m c) hw hb (gc t q)) j,
    show cellRows (val121 (blocks m c t)) q = cell (args m c) (gc t q) from
      funext fun n => funext fun d => val121_cell m c hc t q n d,
    show (fun i d => (blocks m c t).x14 (ix2 i d)) = (fun i j => mat (args m c).x15 ⟨i.val, by omega⟩ j) from
      funext fun i => funext fun j => V_v16 m c i j,
    show (fun i d => (blocks m c t).x15 (ix2 i d)) = (fun i j => mat (args m c).x15 ⟨128 + i.val, by omega⟩ j) from
      funext fun i => funext fun j => V_v18 m c i j,
    show (fun d => (blocks m c t).x16 (ix2 0 d)) = vec (args m c).x16 from funext (V_v19 m c),
    show (fun d => (blocks m c t).x17 (ix2 0 d)) = (fun j => Ideal.div (vec (args m c).x17 j) (Ideal.sqrt (Ideal.ofBits .f32 0x3F800054#32))) from
      funext (V_v20 m c),
    show (fun d => (blocks m c t).x18 (ix2 0 d)) = vec (args m c).x18 from funext (V_v21 m c),
    show (fun i d => (blocks m c t).x19 (ix2 i d)) = mat (args m c).x19 from funext fun i => funext fun j => V_v22 m c i j,
    show (fun d => (blocks m c t).x20 (ix2 0 d)) = vec (args m c).x20 from funext (V_v23 m c),
    show (fun i d => (blocks m c t).x21 (ix2 i d)) = mat (args m c).x21 from
      funext fun i => funext fun j => V_a21 m c i j,
    show (fun d => (blocks m c t).x22 (ix2 0 d)) = vec (args m c).x22 from funext (V_v24 m c),
    show (fun i d => (blocks m c t).x23 (ix2 i d)) = mat (args m c).x23 from
      funext fun i => funext fun j => V_a23 m c i j,
    show (fun d => (blocks m c t).x24 (ix2 0 d)) = vec (args m c).x24 from funext (V_v25 m c)]

/-- Different grid points write different blocks. -/
theorem apart : ∀ t t' : Fin grid0.N, win0_25.index t = win0_25.index t' → t = t' := by decide +kernel

/-- The output window moves with the grid point. -/
theorem out_moves : ∀ t : Fin grid0.N, win0_25.index t 0 = t.val := by decide +kernel

/-- The kernel's result array, entry by entry. -/
theorem result_apply (c : Dev nD) (hc : ∀ p, 0 ≤ ((args m c).x0 (ix1 p)).toInt ∧ ((args m c).x0 (ix1 p)).toInt < 33)
    (hw : ∀ i j, IsReal (mat (args m c).x13 i j)) (hb : ∀ j, IsReal (vec (args m c).x14 j))
    (t : Fin cfg0.N) (q : Fin 16) (j : Fin 128) :
    ((dats m 0 c).arrAt 25 cfg0.N : S256x128.Idx → EReal) (ix2 (gc t q) j) = res (args m c) (ix2 (gc t q) j) := by
  have hf : (cfg0.win 25).flush t = true := flush0_25 t
  have h := congrFun ((dats m 0 c).read_blk_arrAt_eq_flushed 25
    (fun t t' _ _ hne => (cfg0.win 25).disjoint_blk fun h => hne (apart t t' h)) cfg0.N t t.isLt hf) (ix2 q j)
  have e : ((win0_25.rect t).emb (ix2 q j) : S256x128.Idx) = ix2 (gc t q) j := funext fun a => Fin.ext (by
    refine (win0_25.rect_emb_val_off t (ix2 q j) a).trans ?_
    match a with
    | ⟨0, _⟩ => exact (congrArg (fun x => x * 16 + q.val) (out_moves t)).trans (congrArg (fun x => x + q.val) (Nat.mul_comm _ _))
    | ⟨1, _⟩ => exact Nat.zero_add _)
  refine (congrArg ((dats m 0 c).arrAt 25 cfg0.N : S256x128.Idx → EReal) e).symm.trans (Eq.trans h ?_)
  refine Eq.trans ?_ (out_res m c hc hw hb t q j)
  rw [← blocks_eq m c t]
  exact congrFun (after0_25 m c t) (ix2 q j)

/-- The kernel's result array is the reference's result. -/
theorem result_eq (c : Dev nD) (hc : ∀ p, 0 ≤ ((args m c).x0 (ix1 p)).toInt ∧ ((args m c).x0 (ix1 p)).toInt < 33)
    (hw : ∀ i j, IsReal (mat (args m c).x13 i j)) (hb : ∀ j, IsReal (vec (args m c).x14 j)) :
    ((dats m 0 c).arrAt 25 cfg0.N : S256x128.Idx → EReal) = res (args m c) := by
  funext y
  have e : y = ix2 (gc ⟨(y 0).val / 16, by have : (y 0).val < 256 := (y 0).isLt; show _ < 16; omega⟩ ⟨(y 0).val % 16, by omega⟩) (y 1) := by
    funext a
    match a with
    | ⟨0, _⟩ => exact Fin.ext (by show (y 0).val = 16 * ((y 0).val / 16) + (y 0).val % 16; omega)
    | ⟨1, _⟩ => rfl
  rw [e]
  exact result_apply m c hc hw hb _ _ _

end Cert.KernelIdeal.Own

end
-- ==== Proof.PreRead.lean ====
/- What the precondition says: every class lies in the table, and the merging weight and bias are real numbers. -/
module

public import proofs.«01_k».proof.Defs
public import proofs.«01_k».proof.Proof.Gen.Pre_classes_in_table_merge_finite
public import proofs.«01_k».proof.Proof.Cell
public import Idealize.ShloMosaic.Lib.Pointwise

@[expose] public section

set_option maxRecDepth 16384

noncomputable section

namespace Cert.Own.PreRead

open Cert.Pre_classes_in_table_merge_finite Cert.Own
open Idealize.ShloMosaic

/-- A conjunction of two bits is one exactly if both are. -/
theorem andi_one (a b : BitVec 1) : IntOp.andi a b = 1#1 ↔ a = 1#1 ∧ b = 1#1 := by
  revert a b; decide

/-- A fold of bits by conjunction is one only if every bit is. -/
theorem foldl_andi {ι : Type} (l : List ι) (f : ι → BitVec 1) (z : BitVec 1)
    (h : l.foldl (fun r n => IntOp.andi r (f n)) z = 1#1) : z = 1#1 ∧ ∀ n ∈ l, f n = 1#1 := by
  induction l generalizing z with
  | nil => exact ⟨h, fun n hn => absurd hn List.not_mem_nil⟩
  | cons a l ih =>
    obtain ⟨h1, h2⟩ := ih (IntOp.andi z (f a)) h
    obtain ⟨hz, ha⟩ := (andi_one _ _).mp h1
    refine ⟨hz, fun n hn => ?_⟩
    rcases List.mem_cons.mp hn with rfl | hn
    · exact ha
    · exact h2 n hn

/-- A conjunction over a whole array is one only if every entry is. -/
theorem reduce_andi {s : Shape} {axes : List (Fin s.rank)} (x : IVec s 1) (z : IVec S_ 1) (hr : s.ReducesTo axes S_) (j : S_.Idx)
    (h : Host.reduce IntOp.andi x z hr Gen.h_S_ j = 1#1) (i : s.Idx) : x i = 1#1 := by
  have key := (foldl_andi _ (fun n => x (s.rowMajor.symm n)) _ h).2 (s.rowMajor i)
    (List.mem_filter.mpr ⟨List.mem_finRange _, decide_eq_true (funext fun a => a.elim0)⟩)
  simpa using key

/-- A number of finite size is a real number. -/
theorem real_of_abs (x : EReal)
    (h : FloatOps.cmpf (F := Ideal) (φ := .f32) .olt (FloatOps.hostAbsf (F := Ideal) (φ := .f32) x) (Ideal.ofBits .f32 0x7F800000#32) = 1#1) :
    IsReal x := by
  have ht : Ideal.ofBits .f32 0x7F800000#32 = (⊤ : EReal) := by simp [Ideal.ofBits, Ideal.ieee]
  have h' : Ideal.cmp .olt (max x (-x)) (Ideal.ofBits .f32 0x7F800000#32) = 1#1 := h
  rw [ht] at h'
  have hlt : max x (-x) < ⊤ := by
    by_contra hn
    simp [Ideal.cmp, hn] at h'
  have h1 : x ≠ ⊤ := fun e => by simp [e] at hlt
  have h2 : x ≠ ⊥ := fun e => by simp [e] at hlt
  exact ⟨x.toReal, (EReal.coe_toReal h1 h2).symm⟩

/-- A class that passes the comparisons lies in the table. -/
theorem class_of_cmp (x : BitVec 32) (h0 : IntOp.cmpi .sge x 0#32 = 1#1) (h1 : IntOp.cmpi .slt x 33#32 = 1#1) :
    0 ≤ x.toInt ∧ x.toInt < 33 := by
  have bit : ∀ b : Bool, BitVec.ofBool b = 1#1 → b = true := by decide
  have h0' := of_decide_eq_true (bit _ h0)
  have h1' := of_decide_eq_true (bit _ h1)
  exact ⟨h0', h1'⟩

/-- What the precondition says, entry by entry. -/
theorem reads (x0 : IVec S16384 32) (x1 x2 : FVec Ideal S16384x3 .f32) (x3 : IVec S16384 32) (x4 : FVec Ideal S33x128 .f32)
    (x5 : FVec Ideal S3x64 .f32) (x6 : FVec Ideal S64 .f32) (x7 : FVec Ideal S64x128 .f32) (x8 : FVec Ideal S128 .f32)
    (x9 : FVec Ideal S3x64 .f32) (x10 : FVec Ideal S64 .f32) (x11 : FVec Ideal S64x128 .f32) (x12 : FVec Ideal S128 .f32)
    (x13 : FVec Ideal S384x128 .f32) (x14 : FVec Ideal S128 .f32) (x15 : FVec Ideal S256x128 .f32)
    (x16 x17 x18 : FVec Ideal S128 .f32) (x19 : FVec Ideal S128x128 .f32) (x20 : FVec Ideal S128 .f32)
    (x21 : FVec Ideal S128x128 .f32) (x22 : FVec Ideal S128 .f32) (x23 : FVec Ideal S128x128 .f32) (x24 : FVec Ideal S128 .f32)
    (h : fn (F := Ideal) x0 x1 x2 x3 x4 x5 x6 x7 x8 x9 x10 x11 x12 x13 x14 x15 x16 x17 x18 x19 x20 x21 x22 x23 x24 = fun _ => 1#1) :
    (∀ p, 0 ≤ (x0 (ix1 p)).toInt ∧ (x0 (ix1 p)).toInt < 33) ∧ (∀ i j, IsReal (x13 (ix2 i j))) ∧ ∀ j, IsReal (x14 (ix1 j)) := by
  obtain ⟨hc, hb⟩ := (andi_one _ _).mp (congrFun h fun a => a.elim0)
  obtain ⟨ha, hw⟩ := (andi_one _ _).mp hc
  refine ⟨fun p => ?_, fun i j => ?_, fun j => ?_⟩
  · obtain ⟨h0, h1⟩ := (andi_one _ _).mp (reduce_andi _ _ _ _ ha (ix1 p))
    exact class_of_cmp _ h0 h1
  · exact real_of_abs _ (reduce_andi _ _ _ _ hw (ix2 i j))
  · exact real_of_abs _ (reduce_andi _ _ _ _ hb (ix1 j))

end Cert.Own.PreRead

end
-- ==== Proof.Algebraic.lean ====
/- The idealized kernel and the reference end with equal results, whenever the classes are in the table and the merging
   layer's weight and bias are finite. -/
module

public import proofs.«01_k».proof.Defs
public import proofs.«01_k».proof.Proof.KernelValue
public import proofs.«01_k».proof.Proof.PreRead
public import proofs.«01_k».proof.Proof.Gen.ReferenceIdeal.Read
public import Idealize.ShloMosaic.Adequacy
public import Idealize.ShloMosaic.Init

@[expose] public section

set_option maxRecDepth 16384

noncomputable section

namespace Cert.Own

open Idealize.ShloMosaic Idealize.ShloMosaic.TcCoe Idealize.SL.Sem
open Cert.ReferenceIdeal.Own (Args res)

/-- The arguments that the reference is run with. -/
def refArgs (m' : (ℓ : Loc Cert.ReferenceIdeal.nD Cert.ReferenceIdeal.τ Cert.ReferenceIdeal.sig) → Buf (Elt Ideal) ℓ)
    (c : Dev Cert.ReferenceIdeal.nD) : Args :=
  ⟨m' ((c.tc : Thread Cert.ReferenceIdeal.nD Cert.ReferenceIdeal.τ).loc Cert.ReferenceIdeal.main_arg0), m' ((c.tc : Thread Cert.ReferenceIdeal.nD Cert.ReferenceIdeal.τ).loc Cert.ReferenceIdeal.main_arg1), m' ((c.tc : Thread Cert.ReferenceIdeal.nD Cert.ReferenceIdeal.τ).loc Cert.ReferenceIdeal.main_arg2), m' ((c.tc : Thread Cert.ReferenceIdeal.nD Cert.ReferenceIdeal.τ).loc Cert.ReferenceIdeal.main_arg4), m' ((c.tc : Thread Cert.ReferenceIdeal.nD Cert.ReferenceIdeal.τ).loc Cert.ReferenceIdeal.main_arg5), m' ((c.tc : Thread Cert.ReferenceIdeal.nD Cert.ReferenceIdeal.τ).loc Cert.ReferenceIdeal.main_arg6), m' ((c.tc : Thread Cert.ReferenceIdeal.nD Cert.ReferenceIdeal.τ).loc Cert.ReferenceIdeal.main_arg7), m' ((c.tc : Thread Cert.ReferenceIdeal.nD Cert.ReferenceIdeal.τ).loc Cert.ReferenceIdeal.main_arg8), m' ((c.tc : Thread Cert.ReferenceIdeal.nD Cert.ReferenceIdeal.τ).loc Cert.ReferenceIdeal.main_arg9), m' ((c.tc : Thread Cert.ReferenceIdeal.nD Cert.ReferenceIdeal.τ).loc Cert.ReferenceIdeal.main_arg10), m' ((c.tc : Thread Cert.ReferenceIdeal.nD Cert.ReferenceIdeal.τ).loc Cert.ReferenceIdeal.main_arg11), m' ((c.tc : Thread Cert.ReferenceIdeal.nD Cert.ReferenceIdeal.τ).loc Cert.ReferenceIdeal.main_arg12), m' ((c.tc : Thread Cert.ReferenceIdeal.nD Cert.ReferenceIdeal.τ).loc Cert.ReferenceIdeal.main_arg13), m' ((c.tc : Thread Cert.ReferenceIdeal.nD Cert.ReferenceIdeal.τ).loc Cert.ReferenceIdeal.main_arg14), m' ((c.tc : Thread Cert.ReferenceIdeal.nD Cert.ReferenceIdeal.τ).loc Cert.ReferenceIdeal.main_arg15), m' ((c.tc : Thread Cert.ReferenceIdeal.nD Cert.ReferenceIdeal.τ).loc Cert.ReferenceIdeal.main_arg16), m' ((c.tc : Thread Cert.ReferenceIdeal.nD Cert.ReferenceIdeal.τ).loc Cert.ReferenceIdeal.main_arg17), m' ((c.tc : Thread Cert.ReferenceIdeal.nD Cert.ReferenceIdeal.τ).loc Cert.ReferenceIdeal.main_arg18), m' ((c.tc : Thread Cert.ReferenceIdeal.nD Cert.ReferenceIdeal.τ).loc Cert.ReferenceIdeal.main_arg19), m' ((c.tc : Thread Cert.ReferenceIdeal.nD Cert.ReferenceIdeal.τ).loc Cert.ReferenceIdeal.main_arg20), m' ((c.tc : Thread Cert.ReferenceIdeal.nD Cert.ReferenceIdeal.τ).loc Cert.ReferenceIdeal.main_arg21), m' ((c.tc : Thread Cert.ReferenceIdeal.nD Cert.ReferenceIdeal.τ).loc Cert.ReferenceIdeal.main_arg22), m' ((c.tc : Thread Cert.ReferenceIdeal.nD Cert.ReferenceIdeal.τ).loc Cert.ReferenceIdeal.main_arg23), m' ((c.tc : Thread Cert.ReferenceIdeal.nD Cert.ReferenceIdeal.τ).loc Cert.ReferenceIdeal.main_arg24)⟩

/-- Over the extended reals the kernel and the reference compute the same result from the same arguments. -/
theorem same_result : Cert.algebraic_KernelIdeal_ReferenceIdeal_pre_classes_in_table_merge_finite
    (hKernelIdeal := Cert.KernelIdeal.Gen.facts) (hReferenceIdeal := Cert.ReferenceIdeal.Gen.facts)
    (hPre_classes_in_table_merge_finite := Cert.Pre_classes_in_table_merge_finite.Gen.facts) := by
  intro m g m' g' hpre hagree
  have hp := fun c => PreRead.reads _ _ _ _ _ _ _ _ _ _ _ _ _ _ _ _ _ _ _ _ _ _ _ _ _ (hpre c)
  have ha : ∀ c, refArgs m' c = Cert.KernelIdeal.Own.args m c := fun c => by
    obtain ⟨e0, e1, e2, e3, e4, e5, e6, e7, e8, e9, e10, e11, e12, e13, e14, e15, e16, e17, e18, e19, e20, e21, e22, e23, e24⟩ := hagree c
    unfold refArgs Cert.KernelIdeal.Own.args
    rw [Args.mk.injEq]
    exact ⟨e0, e1, e2, e4, e5, e6, e7, e8, e9, e10, e11, e12, e13, e14, e15, e16, e17, e18, e19, e20, e21, e22, e23, e24⟩
  refine ⟨fun c => res (Cert.KernelIdeal.Own.args m c), ?_, ?_⟩
  · have hk := θ_run_and (Cert.KernelIdeal.Own.run_main m g) (Cert.KernelIdeal.Own.unchanged m g)
    exact (θ_run Cert.KernelIdeal.defs _ _).mono
      (fun r h c => And.intro (((h.1 c).1 25).trans (Cert.KernelIdeal.Own.result_eq m c (hp c).1 (hp c).2.1 (hp c).2.2)) (h.2 c)) hk
  · have hr := Cert.ReferenceIdeal.Value.run (F := Ideal) m' g'
    refine (θ_run Cert.ReferenceIdeal.defs _ _).mono (fun r h c => And.intro ?_ (h c).2) hr
    refine Eq.trans (h c).1 ?_
    refine Eq.trans (Cert.ReferenceIdeal.Read.val_main_v102_eq (F := Ideal) (StableHlo.launchContents m' c)) ?_
    have hres : res (refArgs m' c) = res (Cert.KernelIdeal.Own.args m c) := congrArg res (ha c)
    exact hres

end Cert.Own

end
-- ==== Proof.lean ====
module

public import proofs.«01_k».proof.Defs
public import proofs.«01_k».proof.Proof.KernelRun
public import proofs.«01_k».proof.Proof.IdealRun
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The reference runs to the end with its arguments as they were and every semaphore counter at zero. -/
theorem frame_reference : Cert.quiescent_ReferenceIdeal (hReferenceIdeal := Cert.ReferenceIdeal.Gen.facts) := fun m ρ _ =>
  (θ_run Cert.ReferenceIdeal.defs _ _).mono
    (fun r h => And.intro (fun c => (h c).2) (sem_eq_zero_of_no_sems (by decide) r.2))
    (Cert.ReferenceIdeal.Value.run (F := Ideal) m ρ)

/-- Everything that is claimed. -/
theorem claim : Cert.Claim := ⟨Cert.Kernel.Gen.facts, Cert.KernelIdeal.Gen.facts, Cert.ReferenceIdeal.Gen.facts,
  Cert.Pre_classes_in_table_merge_finite.Gen.facts,
  fun m ρ _ => Cert.Kernel.Own.frame m ρ, fun m ρ _ => Cert.KernelIdeal.Own.frame m ρ, fun m ρ _ => Cert.KernelIdeal.Own.frame m ρ,
  frame_reference, fun m ρ _ => frame_reference m ρ trivial,
  IdealRules.named_const.statement Cert.KernelIdeal.κ "big" .f32 0x7F61B1E6#32 ⊤ rfl,
  Cert.Own.same_result⟩

end Cert.Proof

end
